-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "k2" .f32 0x4358677D#32 ((150 * (Real.log 2)⁻¹ : ℝ) : EReal)
  ∧ IdealRules.named_const.Statement Cert.KernelIdeal.κ "geo0" .bf16 0x7011#16 ((324518553658426726783156020576256 * (14811483 / 8192)⁻¹ : ℝ) : EReal)
  ∧ IdealRules.named_const.Statement Cert.KernelIdeal.κ "no_cap" .bf16 0x5380#16 ⊤
  ∧ IdealRules.named_const.Statement Cert.KernelIdeal.κ "q_inv" .bf16 0x3A11#16 (((14811483 / 8192)⁻¹ : ℝ) : EReal)
  ∧ IdealRules.named_const.Statement Cert.KernelIdeal.κ "q" .bf16 0x44E2#16 ((14811483 / 8192 : ℝ) : EReal)
  ∧ IdealRules.named_const.Statement Cert.KernelIdeal.κ "geo1" .bf16 0x5A6F#16 ((324518553658426726783156020576256 * ((14811483 / 8192) * ((14811483 / 8192) * ((14811483 / 8192) * ((14811483 / 8192) * (14811483 / 8192)))))⁻¹ : ℝ) : EReal)
  ∧ IdealRules.named_const.Statement Cert.KernelIdeal.κ "geo2" .bf16 0x44C4#16 ((324518553658426726783156020576256 * ((14811483 / 8192) * ((14811483 / 8192) * ((14811483 / 8192) * ((14811483 / 8192) * ((14811483 / 8192) * ((14811483 / 8192) * ((14811483 / 8192) * ((14811483 / 8192) * (14811483 / 8192)))))))))⁻¹ : ℝ) : EReal)
  ∧ IdealRules.named_const.Statement Cert.KernelIdeal.κ "geo3" .bf16 0x2F22#16 ((324518553658426726783156020576256 * ((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * (14811483 / 8192)))))))))))))⁻¹ : ℝ) : EReal)
  ∧ IdealRules.named_const.Statement Cert.KernelIdeal.κ "geo4" .bf16 0x1985#16 ((324518553658426726783156020576256 * ((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * (14811483 / 8192)))))))))))))))))⁻¹ : ℝ) : EReal)
  ∧ IdealRules.named_const.Statement Cert.KernelIdeal.κ "edge10" .bf16 0x75A9#16 ((((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * (14811483 / 8192)))))))))))))))))))) * 324518553658426726783156020576256⁻¹ : ℝ) : EReal)
  ∧ IdealRules.named_const.Statement Cert.KernelIdeal.κ "scale" .f32 0x3527C5AC#32 ((2748779 / 4398046511104 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x3x512x512 : Shape := ⟨4, ![16, 3, 512, 512]⟩
abbrev S48x512x512 : Shape := ⟨3, ![48, 512, 512]⟩
abbrev S5632x16 : Shape := ⟨2, ![5632, 16]⟩
abbrev S_ : Shape := ⟨0, ![]⟩
abbrev S48x16 : Shape := ⟨2, ![48, 16]⟩
abbrev S24x16 : Shape := ⟨2, ![24, 16]⟩
abbrev S2x24x32x512 : Shape := ⟨4, ![2, 24, 32, 512]⟩
abbrev S2 : Shape := ⟨1, ![2]⟩
abbrev S1 : Shape := ⟨1, ![1]⟩
abbrev S1x24x32x512 : Shape := ⟨4, ![1, 24, 32, 512]⟩
abbrev S24x32x512 : Shape := ⟨3, ![24, 32, 512]⟩
abbrev S24x32x1024 : Shape := ⟨3, ![24, 32, 1024]⟩
abbrev S768x1024 : Shape := ⟨2, ![768, 1024]⟩
abbrev S1024x16 : Shape := ⟨2, ![1024, 16]⟩
abbrev S768x16 : Shape := ⟨2, ![768, 16]⟩
abbrev S768x512 : Shape := ⟨2, ![768, 512]⟩
abbrev S512x16 : Shape := ⟨2, ![512, 16]⟩
abbrev S24x32x16 : Shape := ⟨3, ![24, 32, 16]⟩
abbrev S1x1 : Shape := ⟨2, ![1, 1]⟩
abbrev S48x10 : Shape := ⟨2, ![48, 10]⟩
abbrev S1x48x10 : Shape := ⟨3, ![1, 48, 10]⟩
abbrev S1x1x1 : Shape := ⟨3, ![1, 1, 1]⟩

abbrev nBuf : Space → Nat
  | .hbm => 29
  | .vmem => 6
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S48x512x512, .f32⟩
  | .hbm, ⟨3, _⟩ => ⟨S48x512x512, .f32⟩
  | .hbm, ⟨4, _⟩ => ⟨S5632x16, .i32⟩
  | .hbm, ⟨5, _⟩ => ⟨S5632x16, .i32⟩
  | .hbm, ⟨6, _⟩ => ⟨S_, .i32⟩
  | .hbm, ⟨7, _⟩ => ⟨S5632x16, .i32⟩
  | .hbm, ⟨8, _⟩ => ⟨S5632x16, .i32⟩
  | .hbm, ⟨9, _⟩ => ⟨S5632x16, .i1⟩
  | .hbm, ⟨10, _⟩ => ⟨S_, .i32⟩
  | .hbm, ⟨11, _⟩ => ⟨S5632x16, .i32⟩
  | .hbm, ⟨12, _⟩ => ⟨S5632x16, .i32⟩
  | .hbm, ⟨13, _⟩ => ⟨S_, .i32⟩
  | .hbm, ⟨14, _⟩ => ⟨S5632x16, .i32⟩
  | .hbm, ⟨15, _⟩ => ⟨S5632x16, .i32⟩
  | .hbm, ⟨16, _⟩ => ⟨S5632x16, .i1⟩
  | .hbm, ⟨17, _⟩ => ⟨S5632x16, .i1⟩
  | .hbm, ⟨18, _⟩ => ⟨S_, .f32⟩
  | .hbm, ⟨19, _⟩ => ⟨S_, .f32⟩
  | .hbm, ⟨20, _⟩ => ⟨S5632x16, .f32⟩
  | .hbm, ⟨21, _⟩ => ⟨S5632x16, .f32⟩
  | .hbm, ⟨22, _⟩ => ⟨S5632x16, .f32⟩
  | .hbm, ⟨23, _⟩ => ⟨S5632x16, .bf16⟩
  | .hbm, ⟨24, _⟩ => ⟨S_, .f32⟩
  | .hbm, ⟨25, _⟩ => ⟨S48x16, .f32⟩
  | .hbm, ⟨26, _⟩ => ⟨S48x16, .f32⟩
  | .hbm, ⟨27, _⟩ => ⟨S1x1, .f32⟩
  | .hbm, ⟨28, _⟩ => ⟨S_, .f32⟩
  | .local _ .vmem, ⟨0, _⟩ => ⟨S24x16, .f32⟩
  | .local _ .vmem, ⟨1, _⟩ => ⟨S5632x16, .bf16⟩
  | .local _ .vmem, ⟨2, _⟩ => ⟨S2x24x32x512, .f32⟩
  | .local _ .vmem, ⟨3, _⟩ => ⟨S2x24x32x512, .f32⟩
  | .local _ .vmem, ⟨4, _⟩ => ⟨S48x16, .f32⟩
  | .local _ .vmem, ⟨5, _⟩ => ⟨S1x1, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_scoped0 : Ref sig .tc := ⟨.vmem, 0, rfl⟩
abbrev cc0_scoped1 : Ref sig .tc := ⟨.vmem, 1, rfl⟩
abbrev cc0_scoped4 : Ref sig .tc := ⟨.vmem, 2, rfl⟩
abbrev cc0_scoped6 : Ref sig .tc := ⟨.vmem, 3, rfl⟩
abbrev cc1_stg0_0 : Ref sig .tc := ⟨.vmem, 4, rfl⟩
abbrev cc1_stg1_0 : Ref sig .tc := ⟨.vmem, 5, rfl⟩
abbrev cc1_sem0_0 : DmaSem sig := 6
abbrev cc1_sem1_0 : DmaSem sig := 7

abbrev nD : Nat := 1
abbrev τ : Topo := Topo.v7x

variable {F : FTy → Type} [FloatOps F]

abbrev grid0 : Pipeline.Grid := ⟨1, ![2], ![false]⟩

def k0_off1 : Fin 1 → Nat :=
  let c0_i32_34_r1 : BitVec 32 := 0#32
  let c2_i32_r1 : BitVec 32 := 2#32
  let v38_r1 : BitVec 32 := Scalar.remui c0_i32_34_r1 c2_i32_r1
  ![v38_r1.toNat]
def k0_off2 : Fin 4 → Nat :=
  let c0_i32_34_r1 : BitVec 32 := 0#32
  let c2_i32_r1 : BitVec 32 := 2#32
  let v38_r1 : BitVec 32 := Scalar.remui c0_i32_34_r1 c2_i32_r1
  let c0_i32_36_r1 : BitVec 32 := 0#32
  let c0_i32_37_r1 : BitVec 32 := 0#32
  let c0_i32_38_r1 : BitVec 32 := 0#32
  ![v38_r1.toNat, 0, 0, 0]
def k0_off3 (i : grid0.Coords) : Fin 3 → Nat :=
  let c24_i32_35_r1 : BitVec 32 := 24#32
  let c0_i32_5_r1 : BitVec 32 := 0#32
  let arg0 : BitVec 32 := BitVec.ofNat 32 (i 0).val
  let c1_i32_r0 : BitVec 32 := 1#32
  let v6_r0 : BitVec 32 := Scalar.muli arg0 c1_i32_r0
  let v12_r1 : BitVec 32 := Scalar.addi c0_i32_5_r1 v6_r0
  let v39_r1 : BitVec 32 := Scalar.muli c24_i32_35_r1 v12_r1
  let c0_i32_39_r1 : BitVec 32 := 0#32
  let c0_i32_40_r1 : BitVec 32 := 0#32
  ![v39_r1.toNat, 0, 0]
@[reducible] def k0_t1_loop : Scf.Loop 32 :=
  let c0_i32_57_r1 : BitVec 32 := 0#32
  let c16_i32_58_r1 : BitVec 32 := 16#32
  let v54_r1 : BitVec 32 := Scalar.addi c0_i32_57_r1 c16_i32_58_r1
  let c1_i32_59_r1 : BitVec 32 := 1#32
  ⟨c0_i32_57_r1, v54_r1, c1_i32_59_r1⟩
def k0_off4 (arg7_r1 : BitVec 32) : Fin 1 → Nat :=
  let c2_i32_240_r1 : BitVec 32 := 2#32
  let v411_r1 : BitVec 32 := Scalar.remui arg7_r1 c2_i32_240_r1
  ![v411_r1.toNat]
def k0_cond1 (i : grid0.Coords) (k0_t1 : Fin k0_t1_loop.trips) (arg12_r1 : BitVec 32) : BitVec 1 :=
  let c0_i32_102_r1 : BitVec 32 := 0#32
  let arg0 : BitVec 32 := BitVec.ofNat 32 (i 0).val
  let c1_i32_r0 : BitVec 32 := 1#32
  let v6_r0 : BitVec 32 := Scalar.muli arg0 c1_i32_r0
  let v95_r1 : BitVec 32 := Scalar.addi c0_i32_102_r1 v6_r0
  let c0_i32_122_r1 : BitVec 32 := 0#32
  let v113_r1 : BitVec 32 := Scalar.addi c0_i32_122_r1 v6_r0
  let v124_r1 : BitVec 1 := Scalar.cmpi .ne v95_r1 v113_r1
  let c0_i32_103_r1 : BitVec 32 := 0#32
  let v96_r1 : BitVec 32 := Scalar.addi arg12_r1 c0_i32_103_r1
  let true_115_r1 : BitVec 1 := 1#1
  let c1_i32_114_r1 : BitVec 32 := 1#32
  let v106_r1 : BitVec 32 := Scalar.addi arg12_r1 c1_i32_114_r1
  let v107_r1 : BitVec 32 := Scalar.select true_115_r1 v106_r1 arg12_r1
  let c16_i32_116_r1 : BitVec 32 := 16#32
  let v108_r1 : BitVec 1 := Scalar.cmpi .eq v107_r1 c16_i32_116_r1
  let c0_i32_117_r1 : BitVec 32 := 0#32
  let v109_r1 : BitVec 32 := Scalar.select v108_r1 c0_i32_117_r1 v107_r1
  let c0_i32_123_r1 : BitVec 32 := 0#32
  let v114_r1 : BitVec 32 := Scalar.addi v109_r1 c0_i32_123_r1
  let v125_r1 : BitVec 1 := Scalar.cmpi .ne v96_r1 v114_r1
  let v126_r1 : BitVec 1 := Scalar.ori v124_r1 v125_r1
  let c0_i32_57_r1 : BitVec 32 := 0#32
  let c1_i32_59_r1 : BitVec 32 := 1#32
  let arg6_r1 : BitVec 32 := Scf.iv c0_i32_57_r1 c1_i32_59_r1 k0_t1
  let c15_i32_134_r1 : BitVec 32 := 15#32
  let v127_r1 : BitVec 1 := Scalar.cmpi .sge arg6_r1 c15_i32_134_r1
  let true_135_r1 : BitVec 1 := 1#1
  let v128_r1 : BitVec 1 := Scalar.xori v127_r1 true_135_r1
  let v129_r1 : BitVec 1 := Scalar.andi v126_r1 v128_r1
  let true_136_r1 : BitVec 1 := 1#1
  let v130_r1 : BitVec 1 := Scalar.andi v129_r1 true_136_r1
  let v131_r1 : BitVec 32 := Scalar.extui v130_r1
  let c0_i32_137_r1 : BitVec 32 := 0#32
  let v132_r1 : BitVec 1 := Scalar.cmpi .ne v131_r1 c0_i32_137_r1
  v132_r1

def k0_off5 (arg7_r1 : BitVec 32) : Fin 4 → Nat :=
  let c2_i32_240_r1 : BitVec 32 := 2#32
  let v411_r1 : BitVec 32 := Scalar.remui arg7_r1 c2_i32_240_r1
  let c0_i32_242_r1 : BitVec 32 := 0#32
  let c0_i32_243_r1 : BitVec 32 := 0#32
  let c0_i32_244_r1 : BitVec 32 := 0#32
  ![v411_r1.toNat, 0, 0, 0]
def k0_off6 (i : grid0.Coords) (arg12_r1 : BitVec 32) : Fin 3 → Nat :=
  let c24_i32_241_r1 : BitVec 32 := 24#32
  let c0_i32_122_r1 : BitVec 32 := 0#32
  let arg0 : BitVec 32 := BitVec.ofNat 32 (i 0).val
  let c1_i32_r0 : BitVec 32 := 1#32
  let v6_r0 : BitVec 32 := Scalar.muli arg0 c1_i32_r0
  let v113_r1 : BitVec 32 := Scalar.addi c0_i32_122_r1 v6_r0
  let v412_r1 : BitVec 32 := Scalar.muli c24_i32_241_r1 v113_r1
  let c32_i32_r1 : BitVec 32 := 32#32
  let true_115_r1 : BitVec 1 := 1#1
  let c1_i32_114_r1 : BitVec 32 := 1#32
  let v106_r1 : BitVec 32 := Scalar.addi arg12_r1 c1_i32_114_r1
  let v107_r1 : BitVec 32 := Scalar.select true_115_r1 v106_r1 arg12_r1
  let c16_i32_116_r1 : BitVec 32 := 16#32
  let v108_r1 : BitVec 1 := Scalar.cmpi .eq v107_r1 c16_i32_116_r1
  let c0_i32_117_r1 : BitVec 32 := 0#32
  let v109_r1 : BitVec 32 := Scalar.select v108_r1 c0_i32_117_r1 v107_r1
  let c0_i32_123_r1 : BitVec 32 := 0#32
  let v114_r1 : BitVec 32 := Scalar.addi v109_r1 c0_i32_123_r1
  let v413_r1 : BitVec 32 := Scalar.muli c32_i32_r1 v114_r1
  let c0_i32_245_r1 : BitVec 32 := 0#32
  ![v412_r1.toNat, v413_r1.toNat, 0]
def k0_off7 (arg9_r1 : BitVec 32) : Fin 1 → Nat :=
  let c2_i32_240_r1 : BitVec 32 := 2#32
  let v411_r1 : BitVec 32 := Scalar.remui arg9_r1 c2_i32_240_r1
  ![v411_r1.toNat]
def k0_cond2 (i : grid0.Coords) (k0_t1 : Fin k0_t1_loop.trips) (arg12_r1 : BitVec 32) : BitVec 1 :=
  let c0_i32_102_r1 : BitVec 32 := 0#32
  let arg0 : BitVec 32 := BitVec.ofNat 32 (i 0).val
  let c1_i32_r0 : BitVec 32 := 1#32
  let v6_r0 : BitVec 32 := Scalar.muli arg0 c1_i32_r0
  let v95_r1 : BitVec 32 := Scalar.addi c0_i32_102_r1 v6_r0
  let c0_i32_122_r1 : BitVec 32 := 0#32
  let v113_r1 : BitVec 32 := Scalar.addi c0_i32_122_r1 v6_r0
  let v136_r1 : BitVec 1 := Scalar.cmpi .ne v95_r1 v113_r1
  let c0_i32_103_r1 : BitVec 32 := 0#32
  let v96_r1 : BitVec 32 := Scalar.addi arg12_r1 c0_i32_103_r1
  let true_115_r1 : BitVec 1 := 1#1
  let c1_i32_114_r1 : BitVec 32 := 1#32
  let v106_r1 : BitVec 32 := Scalar.addi arg12_r1 c1_i32_114_r1
  let v107_r1 : BitVec 32 := Scalar.select true_115_r1 v106_r1 arg12_r1
  let c16_i32_116_r1 : BitVec 32 := 16#32
  let v108_r1 : BitVec 1 := Scalar.cmpi .eq v107_r1 c16_i32_116_r1
  let c0_i32_117_r1 : BitVec 32 := 0#32
  let v109_r1 : BitVec 32 := Scalar.select v108_r1 c0_i32_117_r1 v107_r1
  let c0_i32_123_r1 : BitVec 32 := 0#32
  let v114_r1 : BitVec 32 := Scalar.addi v109_r1 c0_i32_123_r1
  let v137_r1 : BitVec 1 := Scalar.cmpi .ne v96_r1 v114_r1
  let v138_r1 : BitVec 1 := Scalar.ori v136_r1 v137_r1
  let c0_i32_57_r1 : BitVec 32 := 0#32
  let c1_i32_59_r1 : BitVec 32 := 1#32
  let arg6_r1 : BitVec 32 := Scf.iv c0_i32_57_r1 c1_i32_59_r1 k0_t1
  let c15_i32_140_r1 : BitVec 32 := 15#32
  let v139_r1 : BitVec 1 := Scalar.cmpi .sge arg6_r1 c15_i32_140_r1
  let true_141_r1 : BitVec 1 := 1#1
  let v140_r1 : BitVec 1 := Scalar.xori v139_r1 true_141_r1
  let v141_r1 : BitVec 1 := Scalar.andi v138_r1 v140_r1
  let true_142_r1 : BitVec 1 := 1#1
  let v142_r1 : BitVec 1 := Scalar.andi v141_r1 true_142_r1
  let v143_r1 : BitVec 32 := Scalar.extui v142_r1
  let c0_i32_143_r1 : BitVec 32 := 0#32
  let v144_r1 : BitVec 1 := Scalar.cmpi .ne v143_r1 c0_i32_143_r1
  v144_r1

def k0_off8 (arg9_r1 : BitVec 32) : Fin 4 → Nat :=
  let c2_i32_240_r1 : BitVec 32 := 2#32
  let v411_r1 : BitVec 32 := Scalar.remui arg9_r1 c2_i32_240_r1
  let c0_i32_242_r1 : BitVec 32 := 0#32
  let c0_i32_243_r1 : BitVec 32 := 0#32
  let c0_i32_244_r1 : BitVec 32 := 0#32
  ![v411_r1.toNat, 0, 0, 0]
def k0_off9 (i : grid0.Coords) (arg12_r1 : BitVec 32) : Fin 3 → Nat :=
  let c24_i32_241_r1 : BitVec 32 := 24#32
  let c0_i32_122_r1 : BitVec 32 := 0#32
  let arg0 : BitVec 32 := BitVec.ofNat 32 (i 0).val
  let c1_i32_r0 : BitVec 32 := 1#32
  let v6_r0 : BitVec 32 := Scalar.muli arg0 c1_i32_r0
  let v113_r1 : BitVec 32 := Scalar.addi c0_i32_122_r1 v6_r0
  let v412_r1 : BitVec 32 := Scalar.muli c24_i32_241_r1 v113_r1
  let c32_i32_r1 : BitVec 32 := 32#32
  let true_115_r1 : BitVec 1 := 1#1
  let c1_i32_114_r1 : BitVec 32 := 1#32
  let v106_r1 : BitVec 32 := Scalar.addi arg12_r1 c1_i32_114_r1
  let v107_r1 : BitVec 32 := Scalar.select true_115_r1 v106_r1 arg12_r1
  let c16_i32_116_r1 : BitVec 32 := 16#32
  let v108_r1 : BitVec 1 := Scalar.cmpi .eq v107_r1 c16_i32_116_r1
  let c0_i32_117_r1 : BitVec 32 := 0#32
  let v109_r1 : BitVec 32 := Scalar.select v108_r1 c0_i32_117_r1 v107_r1
  let c0_i32_123_r1 : BitVec 32 := 0#32
  let v114_r1 : BitVec 32 := Scalar.addi v109_r1 c0_i32_123_r1
  let v413_r1 : BitVec 32 := Scalar.muli c32_i32_r1 v114_r1
  let c0_i32_245_r1 : BitVec 32 := 0#32
  ![v412_r1.toNat, v413_r1.toNat, 0]
def k0_off10 (arg8_r1 : BitVec 32) : Fin 1 → Nat :=
  let c2_i32_241_r1 : BitVec 32 := 2#32
  let v413_r1 : BitVec 32 := Scalar.remui arg8_r1 c2_i32_241_r1
  ![v413_r1.toNat]
def k0_cond3 (i : grid0.Coords) (k0_t1 : Fin k0_t1_loop.trips) (arg12_r1 : BitVec 32) : BitVec 1 :=
  let c0_i32_102_r1 : BitVec 32 := 0#32
  let arg0 : BitVec 32 := BitVec.ofNat 32 (i 0).val
  let c1_i32_r0 : BitVec 32 := 1#32
  let v6_r0 : BitVec 32 := Scalar.muli arg0 c1_i32_r0
  let v95_r1 : BitVec 32 := Scalar.addi c0_i32_102_r1 v6_r0
  let c0_i32_112_r1 : BitVec 32 := 0#32
  let v104_r1 : BitVec 32 := Scalar.addi c0_i32_112_r1 v6_r0
  let v148_r1 : BitVec 1 := Scalar.cmpi .ne v95_r1 v104_r1
  let c0_i32_103_r1 : BitVec 32 := 0#32
  let v96_r1 : BitVec 32 := Scalar.addi arg12_r1 c0_i32_103_r1
  let true_105_r1 : BitVec 1 := 1#1
  let c1_i32_104_r1 : BitVec 32 := 1#32
  let v97_r1 : BitVec 32 := Scalar.subi arg12_r1 c1_i32_104_r1
  let v98_r1 : BitVec 32 := Scalar.select true_105_r1 v97_r1 arg12_r1
  let c_m1_i32_106_r1 : BitVec 32 := 4294967295#32
  let v99_r1 : BitVec 1 := Scalar.cmpi .eq v98_r1 c_m1_i32_106_r1
  let c15_i32_107_r1 : BitVec 32 := 15#32
  let v100_r1 : BitVec 32 := Scalar.select v99_r1 c15_i32_107_r1 v98_r1
  let c0_i32_113_r1 : BitVec 32 := 0#32
  let v105_r1 : BitVec 32 := Scalar.addi v100_r1 c0_i32_113_r1
  let v149_r1 : BitVec 1 := Scalar.cmpi .ne v96_r1 v105_r1
  let v150_r1 : BitVec 1 := Scalar.ori v148_r1 v149_r1
  let c0_i32_57_r1 : BitVec 32 := 0#32
  let c1_i32_59_r1 : BitVec 32 := 1#32
  let arg6_r1 : BitVec 32 := Scf.iv c0_i32_57_r1 c1_i32_59_r1 k0_t1
  let c0_i32_100_r1 : BitVec 32 := 0#32
  let v93_r1 : BitVec 1 := Scalar.cmpi .eq arg6_r1 c0_i32_100_r1
  let v151_r1 : BitVec 1 := Scalar.ori v150_r1 v93_r1
  let c0_i32_146_r1 : BitVec 32 := 0#32
  let v152_r1 : BitVec 1 := Scalar.cmpi .sge arg6_r1 c0_i32_146_r1
  let v153_r1 : BitVec 1 := Scalar.andi v151_r1 v152_r1
  let v154_r1 : BitVec 32 := Scalar.extui v153_r1
  let c0_i32_147_r1 : BitVec 32 := 0#32
  let v155_r1 : BitVec 1 := Scalar.cmpi .ne v154_r1 c0_i32_147_r1
  v155_r1

def k0_off11 (arg8_r1 : BitVec 32) : Fin 4 → Nat :=
  let c2_i32_241_r1 : BitVec 32 := 2#32
  let v413_r1 : BitVec 32 := Scalar.remui arg8_r1 c2_i32_241_r1
  let c0_i32_242_r1 : BitVec 32 := 0#32
  let c0_i32_243_r1 : BitVec 32 := 0#32
  let c0_i32_244_r1 : BitVec 32 := 0#32
  ![v413_r1.toNat, 0, 0, 0]
def k0_off12 (i : grid0.Coords) (arg12_r1 : BitVec 32) : Fin 3 → Nat :=
  let c24_i32_240_r1 : BitVec 32 := 24#32
  let c0_i32_102_r1 : BitVec 32 := 0#32
  let arg0 : BitVec 32 := BitVec.ofNat 32 (i 0).val
  let c1_i32_r0 : BitVec 32 := 1#32
  let v6_r0 : BitVec 32 := Scalar.muli arg0 c1_i32_r0
  let v95_r1 : BitVec 32 := Scalar.addi c0_i32_102_r1 v6_r0
  let v411_r1 : BitVec 32 := Scalar.muli c24_i32_240_r1 v95_r1
  let c32_i32_r1 : BitVec 32 := 32#32
  let c0_i32_103_r1 : BitVec 32 := 0#32
  let v96_r1 : BitVec 32 := Scalar.addi arg12_r1 c0_i32_103_r1
  let v412_r1 : BitVec 32 := Scalar.muli c32_i32_r1 v96_r1
  let c0_i32_245_r1 : BitVec 32 := 0#32
  ![v411_r1.toNat, v412_r1.toNat, 0]
def k0_off13 (arg10_r1 : BitVec 32) : Fin 1 → Nat :=
  let c2_i32_241_r1 : BitVec 32 := 2#32
  let v413_r1 : BitVec 32 := Scalar.remui arg10_r1 c2_i32_241_r1
  ![v413_r1.toNat]
def k0_cond4 (i : grid0.Coords) (k0_t1 : Fin k0_t1_loop.trips) (arg12_r1 : BitVec 32) : BitVec 1 :=
  let c0_i32_102_r1 : BitVec 32 := 0#32
  let arg0 : BitVec 32 := BitVec.ofNat 32 (i 0).val
  let c1_i32_r0 : BitVec 32 := 1#32
  let v6_r0 : BitVec 32 := Scalar.muli arg0 c1_i32_r0
  let v95_r1 : BitVec 32 := Scalar.addi c0_i32_102_r1 v6_r0
  let c0_i32_112_r1 : BitVec 32 := 0#32
  let v104_r1 : BitVec 32 := Scalar.addi c0_i32_112_r1 v6_r0
  let v156_r1 : BitVec 1 := Scalar.cmpi .ne v95_r1 v104_r1
  let c0_i32_103_r1 : BitVec 32 := 0#32
  let v96_r1 : BitVec 32 := Scalar.addi arg12_r1 c0_i32_103_r1
  let true_105_r1 : BitVec 1 := 1#1
  let c1_i32_104_r1 : BitVec 32 := 1#32
  let v97_r1 : BitVec 32 := Scalar.subi arg12_r1 c1_i32_104_r1
  let v98_r1 : BitVec 32 := Scalar.select true_105_r1 v97_r1 arg12_r1
  let c_m1_i32_106_r1 : BitVec 32 := 4294967295#32
  let v99_r1 : BitVec 1 := Scalar.cmpi .eq v98_r1 c_m1_i32_106_r1
  let c15_i32_107_r1 : BitVec 32 := 15#32
  let v100_r1 : BitVec 32 := Scalar.select v99_r1 c15_i32_107_r1 v98_r1
  let c0_i32_113_r1 : BitVec 32 := 0#32
  let v105_r1 : BitVec 32 := Scalar.addi v100_r1 c0_i32_113_r1
  let v157_r1 : BitVec 1 := Scalar.cmpi .ne v96_r1 v105_r1
  let v158_r1 : BitVec 1 := Scalar.ori v156_r1 v157_r1
  let c0_i32_57_r1 : BitVec 32 := 0#32
  let c1_i32_59_r1 : BitVec 32 := 1#32
  let arg6_r1 : BitVec 32 := Scf.iv c0_i32_57_r1 c1_i32_59_r1 k0_t1
  let c0_i32_100_r1 : BitVec 32 := 0#32
  let v93_r1 : BitVec 1 := Scalar.cmpi .eq arg6_r1 c0_i32_100_r1
  let v159_r1 : BitVec 1 := Scalar.ori v158_r1 v93_r1
  let c0_i32_148_r1 : BitVec 32 := 0#32
  let v160_r1 : BitVec 1 := Scalar.cmpi .sge arg6_r1 c0_i32_148_r1
  let v161_r1 : BitVec 1 := Scalar.andi v159_r1 v160_r1
  let v162_r1 : BitVec 32 := Scalar.extui v161_r1
  let c0_i32_149_r1 : BitVec 32 := 0#32
  let v163_r1 : BitVec 1 := Scalar.cmpi .ne v162_r1 c0_i32_149_r1
  v163_r1

def k0_off14 (arg10_r1 : BitVec 32) : Fin 4 → Nat :=
  let c2_i32_241_r1 : BitVec 32 := 2#32
  let v413_r1 : BitVec 32 := Scalar.remui arg10_r1 c2_i32_241_r1
  let c0_i32_242_r1 : BitVec 32 := 0#32
  let c0_i32_243_r1 : BitVec 32 := 0#32
  let c0_i32_244_r1 : BitVec 32 := 0#32
  ![v413_r1.toNat, 0, 0, 0]
def k0_off15 (i : grid0.Coords) (arg12_r1 : BitVec 32) : Fin 3 → Nat :=
  let c24_i32_240_r1 : BitVec 32 := 24#32
  let c0_i32_102_r1 : BitVec 32 := 0#32
  let arg0 : BitVec 32 := BitVec.ofNat 32 (i 0).val
  let c1_i32_r0 : BitVec 32 := 1#32
  let v6_r0 : BitVec 32 := Scalar.muli arg0 c1_i32_r0
  let v95_r1 : BitVec 32 := Scalar.addi c0_i32_102_r1 v6_r0
  let v411_r1 : BitVec 32 := Scalar.muli c24_i32_240_r1 v95_r1
  let c32_i32_r1 : BitVec 32 := 32#32
  let c0_i32_103_r1 : BitVec 32 := 0#32
  let v96_r1 : BitVec 32 := Scalar.addi arg12_r1 c0_i32_103_r1
  let v412_r1 : BitVec 32 := Scalar.muli c32_i32_r1 v96_r1
  let c0_i32_245_r1 : BitVec 32 := 0#32
  ![v411_r1.toNat, v412_r1.toNat, 0]

def k0_chk1 (i : grid0.Coords) (k0_t1 : Fin k0_t1_loop.trips) (arg7_r1 : BitVec 32) (arg8_r1 : BitVec 32) (arg9_r1 : BitVec 32) (arg10_r1 : BitVec 32) (arg12_r1 : BitVec 32) : Prop :=
  (∀ (k0_h1 : k0_cond1 i k0_t1 arg12_r1 = 1#1), ∀ a, (k0_off4 arg7_r1) a + S1.size a ≤ S2.size a) ∧
  (∀ (k0_h1 : k0_cond1 i k0_t1 arg12_r1 = 1#1), ∀ a, (k0_off5 arg7_r1) a + S1x24x32x512.size a ≤ S2x24x32x512.size a) ∧
  (∀ (k0_h1 : k0_cond1 i k0_t1 arg12_r1 = 1#1), ∀ a, (k0_off6 i arg12_r1) a + S24x32x512.size a ≤ S48x512x512.size a) ∧
  (∀ (k0_h2 : k0_cond2 i k0_t1 arg12_r1 = 1#1), ∀ a, (k0_off7 arg9_r1) a + S1.size a ≤ S2.size a) ∧
  (∀ (k0_h2 : k0_cond2 i k0_t1 arg12_r1 = 1#1), ∀ a, (k0_off8 arg9_r1) a + S1x24x32x512.size a ≤ S2x24x32x512.size a) ∧
  (∀ (k0_h2 : k0_cond2 i k0_t1 arg12_r1 = 1#1), ∀ a, (k0_off9 i arg12_r1) a + S24x32x512.size a ≤ S48x512x512.size a) ∧
  (∀ (k0_h3 : k0_cond3 i k0_t1 arg12_r1 = 1#1), ∀ a, (k0_off10 arg8_r1) a + S1.size a ≤ S2.size a) ∧
  (∀ (k0_h3 : k0_cond3 i k0_t1 arg12_r1 = 1#1), ∀ a, (k0_off11 arg8_r1) a + S1x24x32x512.size a ≤ S2x24x32x512.size a) ∧
  (∀ (k0_h3 : k0_cond3 i k0_t1 arg12_r1 = 1#1), ∀ a, (k0_off12 i arg12_r1) a + S24x32x512.size a ≤ S48x512x512.size a) ∧
  (∀ (k0_h4 : k0_cond4 i k0_t1 arg12_r1 = 1#1), ∀ a, (k0_off13 arg10_r1) a + S1.size a ≤ S2.size a) ∧
  (∀ (k0_h4 : k0_cond4 i k0_t1 arg12_r1 = 1#1), ∀ a, (k0_off14 arg10_r1) a + S1x24x32x512.size a ≤ S2x24x32x512.size a) ∧
  (∀ (k0_h4 : k0_cond4 i k0_t1 arg12_r1 = 1#1), ∀ a, (k0_off15 i arg12_r1) a + S24x32x512.size a ≤ S48x512x512.size a)
theorem k0_off4_inb : ∀ (i : grid0.Coords) (k0_t1 : Fin k0_t1_loop.trips) (arg7_r1 : BitVec 32) (arg8_r1 : BitVec 32) (arg9_r1 : BitVec 32) (arg10_r1 : BitVec 32) (arg12_r1 : BitVec 32) (k0_hw1 : k0_chk1 i k0_t1 arg7_r1 arg8_r1 arg9_r1 arg10_r1 arg12_r1), ∀ (k0_h1 : k0_cond1 i k0_t1 arg12_r1 = 1#1), ∀ a, (k0_off4 arg7_r1) a + S1.size a ≤ S2.size a := fun i k0_t1 arg7_r1 arg8_r1 arg9_r1 arg10_r1 arg12_r1 k0_hw1 k0_h1 => k0_hw1.1 k0_h1
theorem k0_off5_inb : ∀ (i : grid0.Coords) (k0_t1 : Fin k0_t1_loop.trips) (arg7_r1 : BitVec 32) (arg8_r1 : BitVec 32) (arg9_r1 : BitVec 32) (arg10_r1 : BitVec 32) (arg12_r1 : BitVec 32) (k0_hw1 : k0_chk1 i k0_t1 arg7_r1 arg8_r1 arg9_r1 arg10_r1 arg12_r1), ∀ (k0_h1 : k0_cond1 i k0_t1 arg12_r1 = 1#1), ∀ a, (k0_off5 arg7_r1) a + S1x24x32x512.size a ≤ S2x24x32x512.size a := fun i k0_t1 arg7_r1 arg8_r1 arg9_r1 arg10_r1 arg12_r1 k0_hw1 k0_h1 => k0_hw1.2.1 k0_h1
theorem k0_off6_inb : ∀ (i : grid0.Coords) (k0_t1 : Fin k0_t1_loop.trips) (arg7_r1 : BitVec 32) (arg8_r1 : BitVec 32) (arg9_r1 : BitVec 32) (arg10_r1 : BitVec 32) (arg12_r1 : BitVec 32) (k0_hw1 : k0_chk1 i k0_t1 arg7_r1 arg8_r1 arg9_r1 arg10_r1 arg12_r1), ∀ (k0_h1 : k0_cond1 i k0_t1 arg12_r1 = 1#1), ∀ a, (k0_off6 i arg12_r1) a + S24x32x512.size a ≤ S48x512x512.size a := fun i k0_t1 arg7_r1 arg8_r1 arg9_r1 arg10_r1 arg12_r1 k0_hw1 k0_h1 => k0_hw1.2.2.1 k0_h1
theorem k0_off7_inb : ∀ (i : grid0.Coords) (k0_t1 : Fin k0_t1_loop.trips) (arg7_r1 : BitVec 32) (arg8_r1 : BitVec 32) (arg9_r1 : BitVec 32) (arg10_r1 : BitVec 32) (arg12_r1 : BitVec 32) (k0_hw1 : k0_chk1 i k0_t1 arg7_r1 arg8_r1 arg9_r1 arg10_r1 arg12_r1), ∀ (k0_h2 : k0_cond2 i k0_t1 arg12_r1 = 1#1), ∀ a, (k0_off7 arg9_r1) a + S1.size a ≤ S2.size a := fun i k0_t1 arg7_r1 arg8_r1 arg9_r1 arg10_r1 arg12_r1 k0_hw1 k0_h2 => k0_hw1.2.2.2.1 k0_h2
theorem k0_off8_inb : ∀ (i : grid0.Coords) (k0_t1 : Fin k0_t1_loop.trips) (arg7_r1 : BitVec 32) (arg8_r1 : BitVec 32) (arg9_r1 : BitVec 32) (arg10_r1 : BitVec 32) (arg12_r1 : BitVec 32) (k0_hw1 : k0_chk1 i k0_t1 arg7_r1 arg8_r1 arg9_r1 arg10_r1 arg12_r1), ∀ (k0_h2 : k0_cond2 i k0_t1 arg12_r1 = 1#1), ∀ a, (k0_off8 arg9_r1) a + S1x24x32x512.size a ≤ S2x24x32x512.size a := fun i k0_t1 arg7_r1 arg8_r1 arg9_r1 arg10_r1 arg12_r1 k0_hw1 k0_h2 => k0_hw1.2.2.2.2.1 k0_h2
theorem k0_off9_inb : ∀ (i : grid0.Coords) (k0_t1 : Fin k0_t1_loop.trips) (arg7_r1 : BitVec 32) (arg8_r1 : BitVec 32) (arg9_r1 : BitVec 32) (arg10_r1 : BitVec 32) (arg12_r1 : BitVec 32) (k0_hw1 : k0_chk1 i k0_t1 arg7_r1 arg8_r1 arg9_r1 arg10_r1 arg12_r1), ∀ (k0_h2 : k0_cond2 i k0_t1 arg12_r1 = 1#1), ∀ a, (k0_off9 i arg12_r1) a + S24x32x512.size a ≤ S48x512x512.size a := fun i k0_t1 arg7_r1 arg8_r1 arg9_r1 arg10_r1 arg12_r1 k0_hw1 k0_h2 => k0_hw1.2.2.2.2.2.1 k0_h2
theorem k0_off10_inb : ∀ (i : grid0.Coords) (k0_t1 : Fin k0_t1_loop.trips) (arg7_r1 : BitVec 32) (arg8_r1 : BitVec 32) (arg9_r1 : BitVec 32) (arg10_r1 : BitVec 32) (arg12_r1 : BitVec 32) (k0_hw1 : k0_chk1 i k0_t1 arg7_r1 arg8_r1 arg9_r1 arg10_r1 arg12_r1), ∀ (k0_h3 : k0_cond3 i k0_t1 arg12_r1 = 1#1), ∀ a, (k0_off10 arg8_r1) a + S1.size a ≤ S2.size a := fun i k0_t1 arg7_r1 arg8_r1 arg9_r1 arg10_r1 arg12_r1 k0_hw1 k0_h3 => k0_hw1.2.2.2.2.2.2.1 k0_h3
theorem k0_off11_inb : ∀ (i : grid0.Coords) (k0_t1 : Fin k0_t1_loop.trips) (arg7_r1 : BitVec 32) (arg8_r1 : BitVec 32) (arg9_r1 : BitVec 32) (arg10_r1 : BitVec 32) (arg12_r1 : BitVec 32) (k0_hw1 : k0_chk1 i k0_t1 arg7_r1 arg8_r1 arg9_r1 arg10_r1 arg12_r1), ∀ (k0_h3 : k0_cond3 i k0_t1 arg12_r1 = 1#1), ∀ a, (k0_off11 arg8_r1) a + S1x24x32x512.size a ≤ S2x24x32x512.size a := fun i k0_t1 arg7_r1 arg8_r1 arg9_r1 arg10_r1 arg12_r1 k0_hw1 k0_h3 => k0_hw1.2.2.2.2.2.2.2.1 k0_h3
theorem k0_off12_inb : ∀ (i : grid0.Coords) (k0_t1 : Fin k0_t1_loop.trips) (arg7_r1 : BitVec 32) (arg8_r1 : BitVec 32) (arg9_r1 : BitVec 32) (arg10_r1 : BitVec 32) (arg12_r1 : BitVec 32) (k0_hw1 : k0_chk1 i k0_t1 arg7_r1 arg8_r1 arg9_r1 arg10_r1 arg12_r1), ∀ (k0_h3 : k0_cond3 i k0_t1 arg12_r1 = 1#1), ∀ a, (k0_off12 i arg12_r1) a + S24x32x512.size a ≤ S48x512x512.size a := fun i k0_t1 arg7_r1 arg8_r1 arg9_r1 arg10_r1 arg12_r1 k0_hw1 k0_h3 => k0_hw1.2.2.2.2.2.2.2.2.1 k0_h3
theorem k0_off13_inb : ∀ (i : grid0.Coords) (k0_t1 : Fin k0_t1_loop.trips) (arg7_r1 : BitVec 32) (arg8_r1 : BitVec 32) (arg9_r1 : BitVec 32) (arg10_r1 : BitVec 32) (arg12_r1 : BitVec 32) (k0_hw1 : k0_chk1 i k0_t1 arg7_r1 arg8_r1 arg9_r1 arg10_r1 arg12_r1), ∀ (k0_h4 : k0_cond4 i k0_t1 arg12_r1 = 1#1), ∀ a, (k0_off13 arg10_r1) a + S1.size a ≤ S2.size a := fun i k0_t1 arg7_r1 arg8_r1 arg9_r1 arg10_r1 arg12_r1 k0_hw1 k0_h4 => k0_hw1.2.2.2.2.2.2.2.2.2.1 k0_h4
theorem k0_off14_inb : ∀ (i : grid0.Coords) (k0_t1 : Fin k0_t1_loop.trips) (arg7_r1 : BitVec 32) (arg8_r1 : BitVec 32) (arg9_r1 : BitVec 32) (arg10_r1 : BitVec 32) (arg12_r1 : BitVec 32) (k0_hw1 : k0_chk1 i k0_t1 arg7_r1 arg8_r1 arg9_r1 arg10_r1 arg12_r1), ∀ (k0_h4 : k0_cond4 i k0_t1 arg12_r1 = 1#1), ∀ a, (k0_off14 arg10_r1) a + S1x24x32x512.size a ≤ S2x24x32x512.size a := fun i k0_t1 arg7_r1 arg8_r1 arg9_r1 arg10_r1 arg12_r1 k0_hw1 k0_h4 => k0_hw1.2.2.2.2.2.2.2.2.2.2.1 k0_h4
theorem k0_off15_inb : ∀ (i : grid0.Coords) (k0_t1 : Fin k0_t1_loop.trips) (arg7_r1 : BitVec 32) (arg8_r1 : BitVec 32) (arg9_r1 : BitVec 32) (arg10_r1 : BitVec 32) (arg12_r1 : BitVec 32) (k0_hw1 : k0_chk1 i k0_t1 arg7_r1 arg8_r1 arg9_r1 arg10_r1 arg12_r1), ∀ (k0_h4 : k0_cond4 i k0_t1 arg12_r1 = 1#1), ∀ a, (k0_off15 i arg12_r1) a + S24x32x512.size a ≤ S48x512x512.size a := fun i k0_t1 arg7_r1 arg8_r1 arg9_r1 arg10_r1 arg12_r1 k0_hw1 k0_h4 => k0_hw1.2.2.2.2.2.2.2.2.2.2.2 k0_h4

def k0_off16 (arg8_r1 : BitVec 32) : Fin 4 → Nat :=
  let c2_i32_150_r1 : BitVec 32 := 2#32
  let v164_r1 : BitVec 32 := Scalar.remui arg8_r1 c2_i32_150_r1
  let v166_r1 : Index := Scalar.indexCast v164_r1
  let c0_152_r1 : Index := 0#32
  let c0_153_r1 : Index := 0#32
  let c0_154_r1 : Index := 0#32
  ![v166_r1.toNat, 0, 0, 0]

def k0_chk2 (arg8_r1 : BitVec 32) : Prop :=
  (∀ a, (k0_off16 arg8_r1) a + S1x24x32x512.size a ≤ S2x24x32x512.size a)
theorem k0_off16_inb : ∀ (arg8_r1 : BitVec 32) (k0_hw2 : k0_chk2 arg8_r1), ∀ a, (k0_off16 arg8_r1) a + S1x24x32x512.size a ≤ S2x24x32x512.size a := fun arg8_r1 k0_hw2 => k0_hw2

def k0_off17 (arg10_r1 : BitVec 32) : Fin 4 → Nat :=
  let c2_i32_151_r1 : BitVec 32 := 2#32
  let v165_r1 : BitVec 32 := Scalar.remui arg10_r1 c2_i32_151_r1
  let v169_r1 : Index := Scalar.indexCast v165_r1
  let c0_155_r1 : Index := 0#32
  let c0_156_r1 : Index := 0#32
  let c0_157_r1 : Index := 0#32
  ![v169_r1.toNat, 0, 0, 0]

def k0_chk3 (arg10_r1 : BitVec 32) : Prop :=
  (∀ a, (k0_off17 arg10_r1) a + S1x24x32x512.size a ≤ S2x24x32x512.size a)
theorem k0_off17_inb : ∀ (arg10_r1 : BitVec 32) (k0_hw3 : k0_chk3 arg10_r1), ∀ a, (k0_off17 arg10_r1) a + S1x24x32x512.size a ≤ S2x24x32x512.size a := fun arg10_r1 k0_hw3 => k0_hw3

def k0_off18 (i : grid0.Coords) : Fin 2 → Nat :=
  let arg0 : BitVec 32 := BitVec.ofNat 32 (i 0).val
  let c24_i32_r0 : BitVec 32 := 24#32
  let v7_r0 : BitVec 32 := Scalar.muli arg0 c24_i32_r0
  let c0_i32_r0 : BitVec 32 := 0#32
  ![v7_r0.toNat, 0]
abbrev grid1 : Pipeline.Grid := .none

abbrev stage1_0 : Fin 1 → Memref sig .tc .vmem S48x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== KernelIdeal.lean ====
variable {F : FTy → Type} [FloatOps F] [Named F]
def κ : String → Option EReal := fun
  | "edge10" => some ((((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * (14811483 / 8192)))))))))))))))))))) * 324518553658426726783156020576256⁻¹ : ℝ) : EReal)
  | "geo0" => some ((324518553658426726783156020576256 * (14811483 / 8192)⁻¹ : ℝ) : EReal)
  | "geo1" => some ((324518553658426726783156020576256 * ((14811483 / 8192) * ((14811483 / 8192) * ((14811483 / 8192) * ((14811483 / 8192) * (14811483 / 8192)))))⁻¹ : ℝ) : EReal)
  | "geo2" => some ((324518553658426726783156020576256 * ((14811483 / 8192) * ((14811483 / 8192) * ((14811483 / 8192) * ((14811483 / 8192) * ((14811483 / 8192) * ((14811483 / 8192) * ((14811483 / 8192) * ((14811483 / 8192) * (14811483 / 8192)))))))))⁻¹ : ℝ) : EReal)
  | "geo3" => some ((324518553658426726783156020576256 * ((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * (14811483 / 8192)))))))))))))⁻¹ : ℝ) : EReal)
  | "geo4" => some ((324518553658426726783156020576256 * ((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * ((14811483 / 8192) * (14811483 / 8192)))))))))))))))))⁻¹ : ℝ) : EReal)
  | "k2" => some ((150 * (Real.log 2)⁻¹ : ℝ) : EReal)
  | "no_cap" => some ⊤
  | "q" => some ((14811483 / 8192 : ℝ) : EReal)
  | "q_inv" => some (((14811483 / 8192)⁻¹ : ℝ) : EReal)
  | "scale" => some ((2748779 / 4398046511104 : ℝ) : EReal)
  | _ => none
-- ==== ReferenceIdeal.lean ====
abbrev S16x3x512x512 : Shape := ⟨4, ![16, 3, 512, 512]⟩
abbrev S_ : Shape := ⟨0, ![]⟩
abbrev S10 : Shape := ⟨1, ![10]⟩
abbrev S16x3x512x512x1 : Shape := ⟨5, ![16, 3, 512, 512, 1]⟩
abbrev S1x1x1x1x10 : Shape := ⟨5, ![1, 1, 1, 1, 10]⟩
abbrev S16x3x512x512x10 : Shape := ⟨5, ![16, 3, 512, 512, 10]⟩
abbrev S16x3x10 : Shape := ⟨3, ![16, 3, 10]⟩
abbrev S16x3 : Shape := ⟨2, ![16, 3]⟩

abbrev nBuf : Space → Nat
  | .hbm => 121
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S10, .f32⟩
  | .hbm, ⟨9, _⟩ => ⟨S_, .f32⟩
  | .hbm, ⟨10, _⟩ => ⟨S10, .f32⟩
  | .hbm, ⟨11, _⟩ => ⟨S10, .f32⟩
  | .hbm, ⟨12, _⟩ => ⟨S10, .f32⟩
  | .hbm, ⟨13, _⟩ => ⟨S10, .f32⟩
  | .hbm, ⟨14, _⟩ => ⟨S_, .f32⟩
  | .hbm, ⟨15, _⟩ => ⟨S10, .f32⟩
  | .hbm, ⟨16, _⟩ => ⟨S10, .f32⟩
  | .hbm, ⟨17, _⟩ => ⟨S16x3x512x512x1, .f32⟩
  | .hbm, ⟨18, _⟩ => ⟨S1x1x1x1x10, .f32⟩
  | .hbm, ⟨19, _⟩ => ⟨S16x3x512x512x10, .f32⟩
  | .hbm, ⟨20, _⟩ => ⟨S16x3x512x512x10, .f32⟩
  | .hbm, ⟨21, _⟩ => ⟨S16x3x512x512x10, .f32⟩
  | .hbm, ⟨22, _⟩ => ⟨S_, .f32⟩
  | .hbm, ⟨23, _⟩ => ⟨S_, .f32⟩
  | .hbm, ⟨24, _⟩ => ⟨S16x3x512x512x10, .f32⟩
  | .hbm, ⟨25, _⟩ => ⟨S16x3x512x512x10, .f32⟩
  | .hbm, ⟨26, _⟩ => ⟨S_, .f32⟩
  | .hbm, ⟨27, _⟩ => ⟨S16x3x512x512x10, .f32⟩
  | .hbm, ⟨28, _⟩ => ⟨S16x3x512x512x10, .f32⟩
  | .hbm, ⟨29, _⟩ => ⟨S16x3x512x512x10, .f32⟩
  | .hbm, ⟨30, _⟩ => ⟨S16x3x512x512x10, .f32⟩
  | .hbm, ⟨31, _⟩ => ⟨S_, .f32⟩
  | .hbm, ⟨32, _⟩ => ⟨S16x3x512x512x10, .f32⟩
  | .hbm, ⟨33, _⟩ => ⟨S16x3x512x512x10, .f32⟩
  | .hbm, ⟨34, _⟩ => ⟨S_, .f32⟩
  | .hbm, ⟨35, _⟩ => ⟨S16x3x512x512x10, .f32⟩
  | .hbm, ⟨36, _⟩ => ⟨S16x3x512x512x10, .f32⟩
  | .hbm, ⟨37, _⟩ => ⟨S_, .f32⟩
  | .hbm, ⟨38, _⟩ => ⟨S_, .f32⟩
  | .hbm, ⟨39, _⟩ => ⟨S16x3x512x512x10, .f32⟩
  | .hbm, ⟨40, _⟩ => ⟨S16x3x512x512x10, .f32⟩
  | .hbm, ⟨41, _⟩ => ⟨S_, .f32⟩
  | .hbm, ⟨42, _⟩ => ⟨S16x3x512x512x10, .f32⟩
  | .hbm, ⟨43, _⟩ => ⟨S16x3x512x512x10, .f32⟩
  | .hbm, ⟨44, _⟩ => ⟨S16x3x512x512x10, .f32⟩
  | .hbm, ⟨45, _⟩ => ⟨S16x3x512x512x10, .f32⟩
  | .hbm, ⟨46, _⟩ => ⟨S_, .f32⟩
  | .hbm, ⟨47, _⟩ => ⟨S16x3x512x512x10, .f32⟩
  | .hbm, ⟨48, _⟩ => ⟨S16x3x512x512x10, .f32⟩
  | .hbm, ⟨49, _⟩ => ⟨S_, .f32⟩
  | .hbm, ⟨50, _⟩ => ⟨S16x3x512x512x10, .f32⟩
  | .hbm, ⟨51, _⟩ => ⟨S16x3x512x512x10, .f32⟩
  | .hbm, ⟨52, _⟩ => ⟨S16x3x512x512x10, .f32⟩
  | .hbm, ⟨53, _⟩ => ⟨S_, .f32⟩
  | .hbm, ⟨54, _⟩ => ⟨S16x3x10, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S10, .f32⟩
  | .hbm, ⟨62, _⟩ => ⟨S_, .f32⟩
  | .hbm, ⟨63, _⟩ => ⟨S10, .f32⟩
  | .hbm, ⟨64, _⟩ => ⟨S10, .f32⟩
  | .hbm, ⟨65, _⟩ => ⟨S10, .f32⟩
  | .hbm, ⟨66, _⟩ => ⟨S10, .f32⟩
  | .hbm, ⟨67, _⟩ => ⟨S_, .f32⟩
  | .hbm, ⟨68, _⟩ => ⟨S10, .f32⟩
  | .hbm, ⟨69, _⟩ => ⟨S10, .f32⟩
  | .hbm, ⟨70, _⟩ => ⟨S16x3x512x512x1, .f32⟩
  | .hbm, ⟨71, _⟩ => ⟨S1x1x1x1x10, .f32⟩
  | .hbm, ⟨72, _⟩ => ⟨S16x3x512x512x10, .f32⟩
  | .hbm, ⟨73, _⟩ => ⟨S16x3x512x512x10, .f32⟩
  | .hbm, ⟨74, _⟩ => ⟨S16x3x512x512x10, .f32⟩
  | .hbm, ⟨75, _⟩ => ⟨S_, .f32⟩
  | .hbm, ⟨76, _⟩ => ⟨S_, .f32⟩
  | .hbm, ⟨77, _⟩ => ⟨S16x3x512x512x10, .f32⟩
  | .hbm, ⟨78, _⟩ => ⟨S16x3x512x512x10, .f32⟩
  | .hbm, ⟨79, _⟩ => ⟨S_, .f32⟩
  | .hbm, ⟨80, _⟩ => ⟨S16x3x512x512x10, .f32⟩
  | .hbm, ⟨81, _⟩ => ⟨S16x3x512x512x10, .f32⟩
  | .hbm, ⟨82, _⟩ => ⟨S16x3x512x512x10, .f32⟩
  | .hbm, ⟨83, _⟩ => ⟨S16x3x512x512x10, .f32⟩
  | .hbm, ⟨84, _⟩ => ⟨S_, .f32⟩
  | .hbm, ⟨85, _⟩ => ⟨S16x3x512x512x10, .f32⟩
  | .hbm, ⟨86, _⟩ => ⟨S16x3x512x512x10, .f32⟩
  | .hbm, ⟨87, _⟩ => ⟨S_, .f32⟩
  | .hbm, ⟨88, _⟩ => ⟨S16x3x512x512x10, .f32⟩
  | .hbm, ⟨89, _⟩ => ⟨S16x3x512x512x10, .f32⟩
  | .hbm, ⟨90, _⟩ => ⟨S_, .f32⟩
  | .hbm, ⟨91, _⟩ => ⟨S_, .f32⟩
  | .hbm, ⟨92, _⟩ => ⟨S16x3x512x512x10, .f32⟩
  | .hbm, ⟨93, _⟩ => ⟨S16x3x512x512x10, .f32⟩
  | .hbm, ⟨94, _⟩ => ⟨S_, .f32⟩
  | .hbm, ⟨95, _⟩ => ⟨S16x3x512x512x10, .f32⟩
  | .hbm, ⟨96, _⟩ => ⟨S16x3x512x512x10, .f32⟩
  | .hbm, ⟨97, _⟩ => ⟨S16x3x512x512x10, .f32⟩
  | .hbm, ⟨98, _⟩ => ⟨S16x3x512x512x10, .f32⟩
  | .hbm, ⟨99, _⟩ => ⟨S_, .f32⟩
  | .hbm, ⟨100, _⟩ => ⟨S16x3x512x512x10, .f32⟩
  | .hbm, ⟨101, _⟩ => ⟨S16x3x512x512x10, .f32⟩
  | .hbm, ⟨102, _⟩ => ⟨S_, .f32⟩
  | .hbm, ⟨103, _⟩ => ⟨S16x3x512x512x10, .f32⟩
  | .hbm, ⟨104, _⟩ => ⟨S16x3x512x512x10, .f32⟩
  | .hbm, ⟨105, _⟩ => ⟨S16x3x512x512x10, .f32⟩
  | .hbm, ⟨106, _⟩ => ⟨S_, .f32⟩
  | .hbm, ⟨107, _⟩ => ⟨S16x3x10, .f32⟩
  | .hbm, ⟨108, _⟩ => ⟨S16x3x10, .f32⟩
  | .hbm, ⟨109, _⟩ => ⟨S16x3x10, .f32⟩
  | .hbm, ⟨110, _⟩ => ⟨S_, .f32⟩
  | .hbm, ⟨111, _⟩ => ⟨S16x3, .f32⟩
  | .hbm, ⟨112, _⟩ => ⟨S_, .f32⟩
  | .hbm, ⟨113, _⟩ => ⟨S16x3, .f32⟩
  | .hbm, ⟨114, _⟩ => ⟨S16x3, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_9 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_10 : Ref sig .tc := ⟨.hbm, 46, rfl⟩
abbrev main_v33 : Ref sig .tc := ⟨.hbm, 47, rfl⟩
abbrev main_v34 : Ref sig .tc := ⟨.hbm, 48, rfl⟩
abbrev main_cst_11 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_12 : Ref sig .tc := ⟨.hbm, 53, rfl⟩
abbrev main_v38 : Ref sig .tc := ⟨.hbm, 54, rfl⟩
abbrev main_cst_13 : Ref sig .tc := ⟨.hbm, 55, rfl⟩
abbrev main_v39 : Ref sig .tc := ⟨.hbm, 56, rfl⟩
abbrev main_cst_14 : Ref sig .tc := ⟨.hbm, 57, rfl⟩
abbrev main_v40 : Ref sig .tc := ⟨.hbm, 58, rfl⟩
abbrev main_cst_15 : Ref sig .tc := ⟨.hbm, 59, rfl⟩
abbrev main_v41 : Ref sig .tc := ⟨.hbm, 60, rfl⟩
abbrev main_v42 : Ref sig .tc := ⟨.hbm, 61, rfl⟩
abbrev main_cst_16 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_17 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_18 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_19 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_20 : Ref sig .tc := ⟨.hbm, 84, rfl⟩
abbrev main_v61 : Ref sig .tc := ⟨.hbm, 85, rfl⟩
abbrev main_v62 : Ref sig .tc := ⟨.hbm, 86, rfl⟩
abbrev main_cst_21 : Ref sig .tc := ⟨.hbm, 87, rfl⟩
abbrev main_v63 : Ref sig .tc := ⟨.hbm, 88, rfl⟩
abbrev main_v64 : Ref sig .tc := ⟨.hbm, 89, rfl⟩
abbrev main_cst_22 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_23 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_24 : Ref sig .tc := ⟨.hbm, 99, rfl⟩
abbrev main_v72 : Ref sig .tc := ⟨.hbm, 100, rfl⟩
abbrev main_v73 : Ref sig .tc := ⟨.hbm, 101, rfl⟩
abbrev main_cst_25 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_26 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_27 : Ref sig .tc := ⟨.hbm, 110, rfl⟩
abbrev main_v80 : Ref sig .tc := ⟨.hbm, 111, rfl⟩
abbrev main_cst_28 : Ref sig .tc := ⟨.hbm, 112, rfl⟩
abbrev main_v81 : Ref sig .tc := ⟨.hbm, 113, rfl⟩
abbrev main_v82 : Ref sig .tc := ⟨.hbm, 114, rfl⟩
abbrev main_cst_29 : Ref sig .tc := ⟨.hbm, 115, rfl⟩
abbrev main_v83 : Ref sig .tc := ⟨.hbm, 116, rfl⟩
abbrev main_cst_30 : Ref sig .tc := ⟨.hbm, 117, rfl⟩
abbrev main_v84 : Ref sig .tc := ⟨.hbm, 118, rfl⟩
abbrev main_cst_31 : Ref sig .tc := ⟨.hbm, 119, rfl⟩
abbrev main_v85 : Ref sig .tc := ⟨.hbm, 120, rfl⟩

abbrev nD : Nat := 1
abbrev τ : Topo := Topo.v7x

variable {F : FTy → Type} [FloatOps F]
-- ==== Proof.Words.lean ====
/-
  The index words of the first call, in closed form.

  The call runs at two grid points (one per group of 24 rows) and each point makes sixteen trips over the columns of
  blocks. Every offset, condition and check of a trip is a short chain of word operations on the point and the trip;
  here each is computed: which slot of a ring, which block of an image, whether a transfer is started or awaited.
-/
module

public import proofs.«01_k».proof.Proof.Gen.KernelIdeal.Loops

@[expose] public section

namespace Cert.Proof.Hist

open Cert.KernelIdeal Cert.KernelIdeal.Gen
open Idealize.ShloMosaic

/-- The word a trip's "block now" counters hold before trip `k`. -/
def curW (k : ℕ) : BitVec 32 := BitVec.ofNat 32 k
/-- The word its "next block" counters hold: one more, but never beyond the sixteen blocks. -/
def nxtW (k : ℕ) : BitVec 32 := BitVec.ofNat 32 (min (k + 1) 16)
/-- The word its column counter holds: it comes back to zero after the last block. -/
def colW (k : ℕ) : BitVec 32 := BitVec.ofNat 32 (k % 16)
/-- The six words the loop carries into trip `k`. -/
abbrev carry (k : ℕ) : BitVec 32 × BitVec 32 × BitVec 32 × BitVec 32 × BitVec 32 × BitVec 32 :=
  (nxtW k, curW k, nxtW k, curW k, 0#32, colW k)

/-- The grid point of row group `r`. -/
def pt (r : Fin 2) : grid0.Coords := fun a => ⟨r.val, by have := r.isLt; fin_cases a; exact this⟩
/-- The row group of a grid point. -/
def rowOf (i : grid0.Coords) : Fin 2 := ⟨(i 0).val, (i 0).isLt⟩
theorem pt_rowOf (i : grid0.Coords) : pt (rowOf i) = i := by
  funext a; fin_cases a; rfl

/-- Every fact over the grid points is a fact over the two row groups. -/
theorem forall_pt {P : grid0.Coords → Prop} (h : ∀ r, P (pt r)) (i : grid0.Coords) : P i := pt_rowOf i ▸ h (rowOf i)

theorem trips_eq : k0_t1_loop.trips = 16 := by decide

/-- The corner of block `k` of row group `r` in an image array. -/
abbrev blkOff (r : Fin 2) (k : Fin 16) : Fin 3 → Nat := ![24 * r.val, 32 * k.val, 0]
theorem blkOff_inb (r : Fin 2) (k : Fin 16) : ∀ a, blkOff r k a + S24x32x512.size a ≤ S48x512x512.size a := by
  have := r.isLt; have := k.isLt; intro a; fin_cases a
  · show 24 * r.val + 24 ≤ 48; omega
  · show 32 * k.val + 32 ≤ 512; omega
  · show 0 + 512 ≤ 512; omega
/-- The corner of slot `s` in a ring of two. -/
abbrev slotOff (s : Fin 2) : Fin 4 → Nat := ![s.val, 0, 0, 0]
theorem slotOff_inb (s : Fin 2) : ∀ a, slotOff s a + S1x24x32x512.size a ≤ S2x24x32x512.size a := by
  have := s.isLt; intro a; fin_cases a
  · show s.val + 1 ≤ 2; omega
  · show 0 + 24 ≤ 24; omega
  · show 0 + 32 ≤ 32; omega
  · show 0 + 512 ≤ 512; omega
/-- The place of slot `s`'s semaphore. -/
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- The slot block `k` uses, and the block itself, as elements of the finite types. -/
abbrev sl (k : ℕ) : Fin 2 := Fin.ofNat 2 k
abbrev bk (k : ℕ) : Fin 16 := Fin.ofNat 16 k

/-! ## Before the loop -/

theorem off1_eq : k0_off1 = semOff 0 := by decide
theorem off2_eq : k0_off2 = slotOff 0 := by decide
theorem off3_eq : ∀ i, k0_off3 i = blkOff (rowOf i) 0 := forall_pt (by decide)
/-- After the loop: the corner of the row group's rows in the result. -/
abbrev outOff (r : Fin 2) : Fin 2 → Nat := ![24 * r.val, 0]
theorem off18_eq : ∀ i, k0_off18 i = outOff (rowOf i) := forall_pt (by decide)

/-! ## Within trip `k` -/

section Trip
private theorem sem_nxt : ∀ k : Fin 15, k0_off4 (nxtW k) = semOff (sl (k + 1)) ∧ k0_off7 (nxtW k) = semOff (sl (k + 1)) := by decide
private theorem slot_nxt : ∀ k : Fin 15, k0_off5 (nxtW k) = slotOff (sl (k + 1)) ∧ k0_off8 (nxtW k) = slotOff (sl (k + 1)) := by decide
private theorem sem_cur : ∀ k : Fin 16, k0_off10 (curW k) = semOff (sl k) ∧ k0_off13 (curW k) = semOff (sl k) := by decide
private theorem slot_cur : ∀ k : Fin 16, (k0_off11 (curW k) = slotOff (sl k) ∧ k0_off14 (curW k) = slotOff (sl k))
    ∧ k0_off16 (curW k) = slotOff (sl k) ∧ k0_off17 (curW k) = slotOff (sl k) := by decide
private theorem blk_nxt : ∀ (r : Fin 2) (k : Fin 15), k0_off6 (pt r) (colW k) = blkOff (rowOf (pt r)) (bk (k + 1))
    ∧ k0_off9 (pt r) (colW k) = blkOff (rowOf (pt r)) (bk (k + 1)) := by decide +kernel
private theorem blk_cur : ∀ (r : Fin 2) (k : Fin 16), k0_off12 (pt r) (colW k) = blkOff (rowOf (pt r)) (bk k)
    ∧ k0_off15 (pt r) (colW k) = blkOff (rowOf (pt r)) (bk k) := by decide +kernel

variable {k : ℕ}
theorem off4_eq (h : k < 15) : k0_off4 (nxtW k) = semOff (sl (k + 1)) := (sem_nxt ⟨k, h⟩).1
theorem off7_eq (h : k < 15) : k0_off7 (nxtW k) = semOff (sl (k + 1)) := (sem_nxt ⟨k, h⟩).2
theorem off5_eq (h : k < 15) : k0_off5 (nxtW k) = slotOff (sl (k + 1)) := (slot_nxt ⟨k, h⟩).1
theorem off8_eq (h : k < 15) : k0_off8 (nxtW k) = slotOff (sl (k + 1)) := (slot_nxt ⟨k, h⟩).2
theorem off10_eq (h : k < 16) : k0_off10 (curW k) = semOff (sl k) := (sem_cur ⟨k, h⟩).1
theorem off13_eq (h : k < 16) : k0_off13 (curW k) = semOff (sl k) := (sem_cur ⟨k, h⟩).2
theorem off11_eq (h : k < 16) : k0_off11 (curW k) = slotOff (sl k) := (slot_cur ⟨k, h⟩).1.1
theorem off14_eq (h : k < 16) : k0_off14 (curW k) = slotOff (sl k) := (slot_cur ⟨k, h⟩).1.2
theorem off16_eq (h : k < 16) : k0_off16 (curW k) = slotOff (sl k) := (slot_cur ⟨k, h⟩).2.1
theorem off17_eq (h : k < 16) : k0_off17 (curW k) = slotOff (sl k) := (slot_cur ⟨k, h⟩).2.2
theorem off6_eq (i : grid0.Coords) (h : k < 15) : k0_off6 i (colW k) = blkOff (rowOf i) (bk (k + 1)) :=
  forall_pt (P := fun i => k0_off6 i (colW k) = blkOff (rowOf i) (bk (k + 1))) (fun r => (blk_nxt r ⟨k, h⟩).1) i
theorem off9_eq (i : grid0.Coords) (h : k < 15) : k0_off9 i (colW k) = blkOff (rowOf i) (bk (k + 1)) :=
  forall_pt (P := fun i => k0_off9 i (colW k) = blkOff (rowOf i) (bk (k + 1))) (fun r => (blk_nxt r ⟨k, h⟩).2) i
theorem off12_eq (i : grid0.Coords) (h : k < 16) : k0_off12 i (colW k) = blkOff (rowOf i) (bk k) :=
  forall_pt (P := fun i => k0_off12 i (colW k) = blkOff (rowOf i) (bk k)) (fun r => (blk_cur r ⟨k, h⟩).1) i
theorem off15_eq (i : grid0.Coords) (h : k < 16) : k0_off15 i (colW k) = blkOff (rowOf i) (bk k) :=
  forall_pt (P := fun i => k0_off15 i (colW k) = blkOff (rowOf i) (bk k)) (fun r => (blk_cur r ⟨k, h⟩).2) i
end Trip

/-! ## What a trip does: it starts the next block unless it is the last trip, and always awaits its own -/

private theorem conds : ∀ (r : Fin 2) (k : Fin k0_t1_loop.trips),
    ((k.val < 15 → k0_cond1 (pt r) k (colW k) = 1#1) ∧ (k.val = 15 → ¬ k0_cond1 (pt r) k (colW k) = 1#1))
    ∧ ((k.val < 15 → k0_cond2 (pt r) k (colW k) = 1#1) ∧ (k.val = 15 → ¬ k0_cond2 (pt r) k (colW k) = 1#1))
    ∧ k0_cond3 (pt r) k (colW k) = 1#1 ∧ k0_cond4 (pt r) k (colW k) = 1#1 := by decide +kernel

section
variable (i : grid0.Coords) (k : Fin k0_t1_loop.trips)
private theorem conds' : ((k.val < 15 → k0_cond1 i k (colW k) = 1#1) ∧ (k.val = 15 → ¬ k0_cond1 i k (colW k) = 1#1))
    ∧ ((k.val < 15 → k0_cond2 i k (colW k) = 1#1) ∧ (k.val = 15 → ¬ k0_cond2 i k (colW k) = 1#1))
    ∧ k0_cond3 i k (colW k) = 1#1 ∧ k0_cond4 i k (colW k) = 1#1 := by
  have h := conds (rowOf i) k; rw [pt_rowOf] at h; exact h
theorem cond1_true (h : k.val < 15) : k0_cond1 i k (colW k) = 1#1 := (conds' i k).1.1 h
theorem cond1_false (h : k.val = 15) : ¬ k0_cond1 i k (colW k) = 1#1 := (conds' i k).1.2 h
theorem cond2_true (h : k.val < 15) : k0_cond2 i k (colW k) = 1#1 := (conds' i k).2.1.1 h
theorem cond2_false (h : k.val = 15) : ¬ k0_cond2 i k (colW k) = 1#1 := (conds' i k).2.1.2 h
theorem cond3_true : k0_cond3 i k (colW k) = 1#1 := (conds' i k).2.2.1
theorem cond4_true : k0_cond4 i k (colW k) = 1#1 := (conds' i k).2.2.2

theorem lt16 : k.val < 16 := trips_eq ▸ k.isLt

/-- The checks a trip makes of its own offsets all hold. -/
theorem chk2_ok : k0_chk2 (curW k) := fun a => by rw [off16_eq (lt16 k)]; exact slotOff_inb _ a
theorem chk3_ok : k0_chk3 (curW k) := fun a => by rw [off17_eq (lt16 k)]; exact slotOff_inb _ a
theorem chk1_ok : k0_chk1 i k (nxtW k) (curW k) (nxtW k) (curW k) (colW k) := by
  have hk := lt16 k
  by_cases h : k.val < 15
  · refine ⟨fun _ a => ?_, fun _ a => ?_, fun _ a => ?_, fun _ a => ?_, fun _ a => ?_, fun _ a => ?_, fun _ a => ?_, fun _ a => ?_,
      fun _ a => ?_, fun _ a => ?_, fun _ a => ?_, fun _ a => ?_⟩
    · rw [off4_eq h]; exact semOff_inb _ a
    · rw [off5_eq h]; exact slotOff_inb _ a
    · rw [off6_eq i h]; exact blkOff_inb _ _ a
    · rw [off7_eq h]; exact semOff_inb _ a
    · rw [off8_eq h]; exact slotOff_inb _ a
    · rw [off9_eq i h]; exact blkOff_inb _ _ a
    · rw [off10_eq hk]; exact semOff_inb _ a
    · rw [off11_eq hk]; exact slotOff_inb _ a
    · rw [off12_eq i hk]; exact blkOff_inb _ _ a
    · rw [off13_eq hk]; exact semOff_inb _ a
    · rw [off14_eq hk]; exact slotOff_inb _ a
    · rw [off15_eq i hk]; exact blkOff_inb _ _ a
  · have h15 : k.val = 15 := by omega
    refine ⟨fun c => absurd c (cond1_false i k h15), fun c => absurd c (cond1_false i k h15), fun c => absurd c (cond1_false i k h15),
      fun c => absurd c (cond2_false i k h15), fun c => absurd c (cond2_false i k h15), fun c => absurd c (cond2_false i k h15),
      fun _ a => ?_, fun _ a => ?_, fun _ a => ?_, fun _ a => ?_, fun _ a => ?_, fun _ a => ?_⟩
    · rw [off10_eq hk]; exact semOff_inb _ a
    · rw [off11_eq hk]; exact slotOff_inb _ a
    · rw [off12_eq i hk]; exact blkOff_inb _ _ a
    · rw [off13_eq hk]; exact semOff_inb _ a
    · rw [off14_eq hk]; exact slotOff_inb _ a
    · rw [off15_eq i hk]; exact blkOff_inb _ _ a
end

end Cert.Proof.Hist

end
-- ==== Proof.Ring.lean ====
/-
  The two rings of the first call: blocks of an image array, the two slots a ring keeps in fast memory, and the
  semaphore of each slot.

  Each image array is copied in blocks of 24 × 32 × 512. Before trip `k` block `k` is on its way into slot `k mod 2`,
  the other slot is free, and every other block of the row group lies at home.
-/
module

public import proofs.«01_k».proof.Proof.Words
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.KitQuiescent
public import Idealize.ShloMosaic.Lib.Ring
public import Idealize.ShloMosaic.Lib.Tactic

@[expose] public section

noncomputable section

namespace Cert.Proof.Hist

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The ghost state: the library's for the windows, and counters for the kernel's own transfers. -/
abbrev UU (nD : Nat) (τ : Topo) : Type := UR sig nD τ × Counters
local notation "𝕄" => MT nD τ sig Unit (Elt F) ℕ (UU nD τ) ℕ
abbrev 𝒱₀ : Variants := Variants.none

/-- An image array, a ring of two slots, the ring's two semaphores. -/
abbrev Img := Memref sig .tc .hbm S48x512x512 .f32
abbrev Slots := Memref sig .tc .vmem S2x24x32x512 .f32
abbrev Cells := DmaSems sig S2

/-- Block `b` of row group `r` of an image array. -/
def blk (A : Img) (r : Fin 2) (b : Fin 16) : Memref sig .tc .hbm S24x32x512 .f32 :=
  A.slice (Rect.unit (s := S48x512x512) (blkOff r b) S24x32x512.size (blkOff_inb r b)) (fun _ => rfl)
/-- Slot `s` of a ring. -/
def slot (B : Slots) (s : Fin 2) : Memref sig .tc .vmem S24x32x512 .f32 :=
  (B.slice (Rect.unit (s := S2x24x32x512) (slotOff s) S1x24x32x512.size (slotOff_inb s)) (fun _ => rfl)).squeeze S24x32x512 squeezes_S1x24x32x512_S24x32x512
/-- The semaphore of slot `s`. -/
def cell (C : Cells) (s : Fin 2) : DmaSems sig S_ :=
  (C.slice (Rect.unit (s := S2) (semOff s) S1.size (semOff_inb s))).squeeze S_ squeezes_S1_S_

instance (s : Fin 2) : ClosedOff (slotOff s) := ⟨slotOff s, rfl⟩
instance (r : Fin 2) (b : Fin 16) : ClosedOff (blkOff r b) := ⟨blkOff r b, rfl⟩

/-! ## The windows of the program are these -/

section Canon
variable (A : Img) (B : Slots) (C : Cells)

private theorem cell_of {off : Fin 1 → Nat} {s : Fin 2} (e : off = semOff s) (hh) :
    (C.slice (Rect.unit (s := S2) off S1.size hh)).squeeze S_ squeezes_S1_S_ = cell C s := by
  subst e; rfl
private theorem slot_of {off : Fin 4 → Nat} {s : Fin 2} (e : off = slotOff s) (hh hs) :
    (B.slice (Rect.unit (s := S2x24x32x512) off S1x24x32x512.size hh) hs).squeeze S24x32x512 squeezes_S1x24x32x512_S24x32x512 = slot B s := by
  subst e; rfl
private theorem blk_of {off : Fin 3 → Nat} {r : Fin 2} {b : Fin 16} (e : off = blkOff r b) (hh hs) :
    A.slice (Rect.unit (s := S48x512x512) off S24x32x512.size hh) hs = blk A r b := by
  subst e; rfl

/-- Before the loop. -/
@[sl_canon] theorem canon1 (hh) : (C.slice (Rect.unit (s := S2) k0_off1 S1.size hh)).squeeze S_ squeezes_S1_S_ = cell C 0 := cell_of C off1_eq hh
@[sl_canon] theorem canon2 (hh hs) : (B.slice (Rect.unit (s := S2x24x32x512) k0_off2 S1x24x32x512.size hh) hs).squeeze S24x32x512 squeezes_S1x24x32x512_S24x32x512 = slot B 0 := slot_of B off2_eq hh hs
@[sl_canon] theorem canon3 (i : grid0.Coords) (hh hs) : A.slice (Rect.unit (s := S48x512x512) (k0_off3 i) S24x32x512.size hh) hs = blk A (rowOf i) 0 := blk_of A (off3_eq i) hh hs

variable (i : grid0.Coords) (k : ℕ)
/-- The block a trip starts. -/
@[sl_canon] theorem canon4 (h : k < 15) (hh) : (C.slice (Rect.unit (s := S2) (k0_off4 (nxtW k)) S1.size hh)).squeeze S_ squeezes_S1_S_ = cell C (sl (k + 1)) := cell_of C (off4_eq h) hh
@[sl_canon] theorem canon7 (h : k < 15) (hh) : (C.slice (Rect.unit (s := S2) (k0_off7 (nxtW k)) S1.size hh)).squeeze S_ squeezes_S1_S_ = cell C (sl (k + 1)) := cell_of C (off7_eq h) hh
@[sl_canon] theorem canon5 (h : k < 15) (hh hs) : (B.slice (Rect.unit (s := S2x24x32x512) (k0_off5 (nxtW k)) S1x24x32x512.size hh) hs).squeeze S24x32x512 squeezes_S1x24x32x512_S24x32x512 = slot B (sl (k + 1)) := slot_of B (off5_eq h) hh hs
@[sl_canon] theorem canon8 (h : k < 15) (hh hs) : (B.slice (Rect.unit (s := S2x24x32x512) (k0_off8 (nxtW k)) S1x24x32x512.size hh) hs).squeeze S24x32x512 squeezes_S1x24x32x512_S24x32x512 = slot B (sl (k + 1)) := slot_of B (off8_eq h) hh hs
@[sl_canon] theorem canon6 (h : k < 15) (hh hs) : A.slice (Rect.unit (s := S48x512x512) (k0_off6 i (colW k)) S24x32x512.size hh) hs = blk A (rowOf i) (bk (k + 1)) := blk_of A (off6_eq i h) hh hs
@[sl_canon] theorem canon9 (h : k < 15) (hh hs) : A.slice (Rect.unit (s := S48x512x512) (k0_off9 i (colW k)) S24x32x512.size hh) hs = blk A (rowOf i) (bk (k + 1)) := blk_of A (off9_eq i h) hh hs
/-- The block it awaits. -/
@[sl_canon] theorem canon10 (h : k < 16) (hh) : (C.slice (Rect.unit (s := S2) (k0_off10 (curW k)) S1.size hh)).squeeze S_ squeezes_S1_S_ = cell C (sl k) := cell_of C (off10_eq h) hh
@[sl_canon] theorem canon13 (h : k < 16) (hh) : (C.slice (Rect.unit (s := S2) (k0_off13 (curW k)) S1.size hh)).squeeze S_ squeezes_S1_S_ = cell C (sl k) := cell_of C (off13_eq h) hh
@[sl_canon] theorem canon11 (h : k < 16) (hh hs) : (B.slice (Rect.unit (s := S2x24x32x512) (k0_off11 (curW k)) S1x24x32x512.size hh) hs).squeeze S24x32x512 squeezes_S1x24x32x512_S24x32x512 = slot B (sl k) := slot_of B (off11_eq h) hh hs
@[sl_canon] theorem canon14 (h : k < 16) (hh hs) : (B.slice (Rect.unit (s := S2x24x32x512) (k0_off14 (curW k)) S1x24x32x512.size hh) hs).squeeze S24x32x512 squeezes_S1x24x32x512_S24x32x512 = slot B (sl k) := slot_of B (off14_eq h) hh hs
@[sl_canon] theorem canon12 (h : k < 16) (hh hs) : A.slice (Rect.unit (s := S48x512x512) (k0_off12 i (colW k)) S24x32x512.size hh) hs = blk A (rowOf i) (bk k) := blk_of A (off12_eq i h) hh hs
@[sl_canon] theorem canon15 (h : k < 16) (hh hs) : A.slice (Rect.unit (s := S48x512x512) (k0_off15 i (colW k)) S24x32x512.size hh) hs = blk A (rowOf i) (bk k) := blk_of A (off15_eq i h) hh hs

instance (k : Fin k0_t1_loop.trips) : ClosedOff (k0_off16 (curW k)) := ⟨slotOff (sl k), off16_eq (lt16 k)⟩
instance (k : Fin k0_t1_loop.trips) : ClosedOff (k0_off17 (curW k)) := ⟨slotOff (sl k), off17_eq (lt16 k)⟩
end Canon

/-! ## Who holds what -/

section Pieces
variable (c : Dev nD) (A : Img) (B : Slots) (C : Cells) (r : Fin 2) (X : Buf (Elt F) (A.view.loc (c : Thread nD τ)))

abbrev cellP (s : Fin 2) : sProp 𝕄 := semVal ((c : Thread nD τ), SemLoc.dma (cell C s).sem) 0
abbrev slotP (s : Fin 2) (f : Buf (Elt F) ((slot B s).view.loc (c : Thread nD τ))) : sProp 𝕄 :=
  (slot B s).view.loc (c : Thread nD τ) ↦[(slot B s).view.set]{fullShare} f
/-- Block `b` at home, with the image's contents. -/
abbrev homeP (b : Fin 16) : sProp 𝕄 := (blk A r b).view.loc (c : Thread nD τ) ↦[(blk A r b).view.set]{fullShare} X
/-- The contents of block `b`. -/
abbrev blkVal (b : Fin 16) : S24x32x512.Idx → Elt F .f32 := ReadAs.same.apply ((blk A r b).view.read (Elt F) X)
/-- Slot `s` once block `b` has landed over contents `f`. -/
abbrev landed (s : Fin 2) (b : Fin 16) (f : Buf (Elt F) ((slot B s).view.loc (c : Thread nD τ))) : Buf (Elt F) ((slot B s).view.loc (c : Thread nD τ)) :=
  (slot B s).view.writes (Elt F) f [⟨Rect.whole S24x32x512, blkVal c A r X b⟩]
/-- Block `b` on its way into slot `s`. -/
abbrev flightP (s : Fin 2) (b : Fin 16) (f : Buf (Elt F) ((slot B s).view.loc (c : Thread nD τ))) : sProp 𝕄 :=
  Transfers.Flight countersEmb (c : Thread nD τ) (SemLoc.dma (cell C s).sem) () 49152 iprop(slotP c B s (landed c A B r X s b f) ∗ homeP c A r X b)

/-- Slot `s` and its semaphore, free. -/
abbrev freeP (s : Fin 2) : sProp 𝕄 := iprop(cellP c C s ∗ ∃ f, slotP (F := F) c B s f)
/-- A ring before trip `k`. -/
def ringAt (k : ℕ) : sProp 𝕄 :=
  iprop(bigSep (Ring.homeSet 1 k) (homeP c A r X)
    ∗ (if k < 16 then iprop(∃ f, flightP c A B C r X (sl k) (bk k) f) else freeP c B C (sl k)) ∗ freeP c B C (sl (k + 1)))

theorem sl_succ2 (k : ℕ) : sl (k + 1 + 1) = sl k := by
  apply Fin.ext; show (k + 1 + 1) % 2 = k % 2; omega

theorem ringAt_eq (k : ℕ) (hk : k < 15) : ringAt c A B C r X k
    = iprop((homeP c A r X (bk (k + 1)) ∗ bigSep ((Ring.homeSet 1 k).erase (bk (k + 1))) (homeP c A r X))
      ∗ (∃ f, flightP c A B C r X (sl k) (bk k) f) ∗ freeP c B C (sl (k + 1))) := by
  unfold ringAt
  conv_lhs => rw [if_pos (by omega), Ring.homeSet_out 1 k (show k + 1 < 16 by omega), bigSep_insert (Ring.bkL_not_mem_erase 1 k)]
  rfl
theorem ringAt_succ (k : ℕ) (hk : k < 15) : ringAt c A B C r X (k + 1)
    = iprop((homeP c A r X (bk k) ∗ bigSep ((Ring.homeSet 1 k).erase (bk (k + 1))) (homeP c A r X))
      ∗ (∃ f, flightP c A B C r X (sl (k + 1)) (bk (k + 1)) f) ∗ freeP c B C (sl k)) := by
  unfold ringAt
  conv_lhs => rw [if_pos (by omega), Ring.homeSet_succ 1 k (show k + 1 < 16 by omega), bigSep_insert (Ring.bk_not_mem_erase 1 k (by omega) (by decide)), sl_succ2]
  rfl
theorem ringAt_15 (k : ℕ) (hk : k = 15) : ringAt c A B C r X k
    = iprop(bigSep (Ring.homeSet 1 k) (homeP c A r X) ∗ (∃ f, flightP c A B C r X (sl k) (bk k) f) ∗ freeP c B C (sl (k + 1))) := by
  unfold ringAt; rw [if_pos (by omega)]
theorem ringAt_16 (k : ℕ) (hk : k = 15) : ringAt c A B C r X (k + 1)
    = iprop((homeP c A r X (bk k) ∗ bigSep (Ring.homeSet 1 k) (homeP c A r X)) ∗ freeP c B C (sl (k + 1)) ∗ freeP c B C (sl k)) := by
  unfold ringAt
  have e : Ring.homeSet (NB := 16) 1 (k + 1) = insert (Ring.bk 16 k) (Ring.homeSet 1 k) := Ring.homeSet_succ_tail 1 k (by omega) (by omega)
  rw [if_neg (by omega), e, bigSep_insert (Ring.bk_not_mem_homeSet 1 k (by omega) (by omega)), sl_succ2]
  rfl
end Pieces

end Cert.Proof.Hist

end
end
-- ==== Proof.Trip.lean ====
/-
  One trip of the first call's loop, and the loop's invariant.

  A trip awaits its block of each image, starts the next block (unless it is the last trip), and adds to the
  accumulator the sums of its block. Here it is run: who holds what before and after, and which array it stores.
-/
module

public import proofs.«01_k».proof.Proof.Ring

@[expose] public section

noncomputable section

namespace Cert.Proof.Hist

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

/-- The call's memory: the selector table and its copy, the images and their rings, the result, the accumulator. -/
abbrev selM : Memref sig .tc .hbm S5632x16 .bf16 := Memref.whole main_v14
abbrev xM : Img := Memref.whole main_v0
abbrev yM : Img := Memref.whole main_v1
abbrev outM : Memref sig .tc .hbm S48x16 .f32 := Memref.whole main_v16
abbrev accM : Memref sig .tc .vmem S24x16 .f32 := Memref.whole cc0_scoped0
abbrev tabM : Memref sig .tc .vmem S5632x16 .bf16 := Memref.whole cc0_scoped1
abbrev xR : Slots := Memref.whole cc0_scoped4
abbrev yR : Slots := Memref.whole cc0_scoped6

section Trip
variable (c : Dev nD) (i : grid0.Coords)
  (X : Buf (Elt F) (xM.view.loc (c : Thread nD τ))) (Y : Buf (Elt F) (yM.view.loc (c : Thread nD τ)))
  (T : Buf (Elt F) (tabM.view.loc (c : Thread nD τ)))

abbrev accP (f : Buf (Elt F) (accM.view.loc (c : Thread nD τ))) : sProp 𝕄 := accM.view.loc (c : Thread nD τ) ↦[accM.view.set]{fullShare} f
abbrev tabP : sProp 𝕄 := tabM.view.loc (c : Thread nD τ) ↦[tabM.view.set]{fullShare} T

/-- What the core holds before trip `k`, the accumulator at `f`. -/
def resAt (k : ℕ) (f : Buf (Elt F) (accM.view.loc (c : Thread nD τ))) : sProp 𝕄 :=
  iprop(accP c f ∗ tabP c T ∗ (∃ W, owes (c : Thread nD τ) 0 W)
    ∗ ringAt c xM xR cc0_scoped5 (rowOf i) X k ∗ ringAt c yM yR cc0_scoped7 (rowOf i) Y k)

/-- Trip `k` of the program, with the words the loop carries into it. -/
abbrev tripG (v12 v30 : BitVec 32) (v31 : BitVec 1) (c0 : BitVec 32) (k : Fin k0_t1_loop.trips) :=
  k0_t1_body (F := F) i selM (Memref.isWhole_whole _) xM (Memref.isWhole_whole _) yM (Memref.isWhole_whole _) outM (Memref.isWhole_whole _)
    outM (Memref.isWhole_whole _) accM (Memref.isWhole_whole _) tabM (Memref.isWhole_whole _) cc0_scoped2 cc0_scoped3 xR (Memref.isWhole_whole _) cc0_scoped5
    yR (Memref.isWhole_whole _) cc0_scoped7 (Scalar.muli (BitVec.ofNat 32 (i 0).val) 1#32) v12 v30 v31 c0 k (carry k)

abbrev R00 : Rect S24x16 := Rect.unit (s := S24x16) ![0, 0] S24x16.size inb_S24x16_S24x16_0_0

set_option backward.proofsInPublic true in
/-- A trip that starts the next block. -/
def tripRun (v12 v30 : BitVec 32) (v31 : BitVec 1) (c0 : BitVec 32) (k : Fin k0_t1_loop.trips) (hk : k.val < 15)
    (g2 : k0_chk2 (curW k)) (g3 : k0_chk3 (curW k)) (f : Buf (Elt F) (accM.view.loc (c : Thread nD τ))) :
    { w : (R00).shape.Idx → Elt F .f32 //
      resAt c i X Y T k f ⊢ wp frame (wpE (defs₀ (F := F)) 𝒱₀ (c : Thread nD τ) none) Set.univ (tripG (F := F) i v12 v30 v31 c0 k)
        (fun a => iprop(⌜a = carry (k.val + 1)⌝ ∗ resAt c i X Y T (k.val + 1) (accM.view.writes (Elt F) f [⟨R00, w⟩]))) } := by
  refine ⟨?_, ?run⟩
  case run =>
    have hk16 : k.val < 16 := by omega
    have h1 := cond1_true i k hk
    have h2 := cond2_true i k hk
    have h3 := cond3_true i k
    have h4 := cond4_true i k
    have g1 := chk1_ok i k
    unfold resAt
    rw [ringAt_eq c xM xR cc0_scoped5 (rowOf i) X k hk, ringAt_eq c yM yR cc0_scoped7 (rowOf i) Y k hk,
      ringAt_succ c xM xR cc0_scoped5 (rowOf i) X k hk, ringAt_succ c yM yR cc0_scoped7 (rowOf i) Y k hk]
    iintro ⟨HA, HT, ⟨%W, HW⟩, ⟨⟨Hx, Hxs⟩, ⟨%fx, HFx⟩, Hcx, %gx, Hsx⟩, ⟨⟨Hy, Hys⟩, ⟨%fy, HFy⟩, Hcy, %gy, Hsy⟩⟩
    dsimp only [tripG]
    sl_unfold [k0_t1_body, k0_part8, k0_part1, k0_part2, k0_part3, k0_part4, k0_part5, k0_part6, k0_part7]
    sl_exec
    sl_step
    isplitr
    · ipureintro
      rw [← pt_rowOf i]; generalize rowOf i = r
      clear * - hk
      revert k r; decide +kernel
    isplitl [HA]; · iexact HA
    isplitl [HT]; · iexact HT
    isplitl [HW]; · iexists _; iexact HW
    isplitl [HFx_src Hxs Hcx HFx HFx_dst]
    · isplitl [HFx_src Hxs]
      · isplitl [HFx_src]; · iexact HFx_src
        iexact Hxs
      isplitl [Hcx]; · iexists gx; iexact Hcx
      isplitl [HFx]; · iexact HFx
      iexists _; iexact HFx_dst
    · isplitl [HFy_src Hys]
      · isplitl [HFy_src]; · iexact HFy_src
        iexact Hys
      isplitl [Hcy]; · iexists gy; iexact Hcy
      isplitl [HFy]; · iexact HFy
      iexists _; iexact HFy_dst

set_option backward.proofsInPublic true in
/-- The last trip: nothing left to start. -/
def tripRun_last (v12 v30 : BitVec 32) (v31 : BitVec 1) (c0 : BitVec 32) (k : Fin k0_t1_loop.trips) (hk : k.val = 15)
    (g2 : k0_chk2 (curW k)) (g3 : k0_chk3 (curW k)) (f : Buf (Elt F) (accM.view.loc (c : Thread nD τ))) :
    { w : (R00).shape.Idx → Elt F .f32 //
      resAt c i X Y T k f ⊢ wp frame (wpE (defs₀ (F := F)) 𝒱₀ (c : Thread nD τ) none) Set.univ (tripG (F := F) i v12 v30 v31 c0 k)
        (fun a => iprop(⌜a = carry (k.val + 1)⌝ ∗ resAt c i X Y T (k.val + 1) (accM.view.writes (Elt F) f [⟨R00, w⟩]))) } := by
  refine ⟨?_, ?run⟩
  case run =>
    have hk16 : k.val < 16 := by omega
    have h1 := cond1_false i k hk
    have h2 := cond2_false i k hk
    have h3 := cond3_true i k
    have h4 := cond4_true i k
    have g1 := chk1_ok i k
    unfold resAt
    rw [ringAt_15 c xM xR cc0_scoped5 (rowOf i) X k hk, ringAt_15 c yM yR cc0_scoped7 (rowOf i) Y k hk,
      ringAt_16 c xM xR cc0_scoped5 (rowOf i) X k hk, ringAt_16 c yM yR cc0_scoped7 (rowOf i) Y k hk]
    iintro ⟨HA, HT, ⟨%W, HW⟩, ⟨Hxs, ⟨%fx, HFx⟩, Hex⟩, ⟨Hys, ⟨%fy, HFy⟩, Hey⟩⟩
    dsimp only [tripG]
    sl_unfold [k0_t1_body, k0_part8, k0_part1, k0_part2, k0_part3, k0_part4, k0_part5, k0_part6, k0_part7]
    sl_exec
    sl_step
    isplitr
    · ipureintro
      rw [← pt_rowOf i]; generalize rowOf i = r
      clear * - hk
      revert k r; decide +kernel
    isplitl [HA]; · iexact HA
    isplitl [HT]; · iexact HT
    isplitl [HW]; · iexists _; iexact HW
    isplitl [HFx_src Hxs Hex HFx HFx_dst]
    · isplitl [HFx_src Hxs]
      · isplitl [HFx_src]; · iexact HFx_src
        iexact Hxs
      isplitl [Hex]; · iexact Hex
      isplitl [HFx]; · iexact HFx
      iexists _; iexact HFx_dst
    · isplitl [HFy_src Hys]
      · isplitl [HFy_src]; · iexact HFy_src
        iexact Hys
      isplitl [Hey]; · iexact Hey
      isplitl [HFy]; · iexact HFy
      iexists _; iexact HFy_dst

/-! ## The loop -/

/-- What trip `k` stores into the accumulator, found there at `f`. -/
def stepVal (k : Fin k0_t1_loop.trips) (f : Buf (Elt F) (accM.view.loc (c : Thread nD τ))) : (R00).shape.Idx → Elt F .f32 :=
  tripRun.sl.v361_r1 c i X Y T k (chk2_ok k) (chk3_ok k) f

/-- Every trip, the last included, stores that. -/
theorem trip_spec (v12 v30 : BitVec 32) (v31 : BitVec 1) (c0 : BitVec 32) (k : Fin k0_t1_loop.trips) (f : Buf (Elt F) (accM.view.loc (c : Thread nD τ))) :
    resAt c i X Y T k f ⊢ wp frame (wpE (defs₀ (F := F)) 𝒱₀ (c : Thread nD τ) none) Set.univ (tripG (F := F) i v12 v30 v31 c0 k)
      (fun a => iprop(⌜a = carry (k.val + 1)⌝ ∗ resAt c i X Y T (k.val + 1) (accM.view.writes (Elt F) f [⟨R00, stepVal c i X Y T k f⟩]))) := by
  by_cases hk : k.val < 15
  · exact (tripRun c i X Y T v12 v30 v31 c0 k hk (chk2_ok k) (chk3_ok k) f).2
  · have hk15 : k.val = 15 := by have := lt16 k; omega
    exact (tripRun_last c i X Y T v12 v30 v31 c0 k hk15 (chk2_ok k) (chk3_ok k) f).2

/-- The accumulator before trip `k`, from its contents `f0` at the loop's entry. -/
def accAt (f0 : Buf (Elt F) (accM.view.loc (c : Thread nD τ))) : ℕ → Buf (Elt F) (accM.view.loc (c : Thread nD τ))
  | 0 => f0
  | k + 1 => if h : k < k0_t1_loop.trips then accM.view.writes (Elt F) (accAt f0 k) [⟨R00, stepVal c i X Y T ⟨k, h⟩ (accAt f0 k)⟩] else accAt f0 k

theorem accAt_succ (f0 : Buf (Elt F) (accM.view.loc (c : Thread nD τ))) (k : Fin k0_t1_loop.trips) :
    accAt c i X Y T f0 (k.val + 1) = accM.view.writes (Elt F) (accAt c i X Y T f0 k) [⟨R00, stepVal c i X Y T k (accAt c i X Y T f0 k)⟩] := by
  rw [accAt, dif_pos k.isLt]

/-- The whole loop, before whatever follows it: the carried words before trip `k` are those of `k`, and the core holds
    `resAt k`. -/
theorem loop_spec (f0 : Buf (Elt F) (accM.view.loc (c : Thread nD τ))) (v6 v12 v30 : BitVec 32) (v31 : BitVec 1) (c0 : BitVec 32)
    (h6 : v6 = Scalar.muli (BitVec.ofNat 32 (i 0).val) 1#32) {β : Type}
    (rest : BitVec 32 × BitVec 32 × BitVec 32 × BitVec 32 × BitVec 32 × BitVec 32 → Prog (TpuEff nD τ sig (Elt F) Λ₀ .tc) β) (Q : β → sProp 𝕄) :
    resAt c i X Y T 0 f0 ⊢ iprop((∀ a, resAt c i X Y T 16 (accAt c i X Y T f0 16) -∗
        wp frame (wpE (defs₀ (F := F)) 𝒱₀ (c : Thread nD τ) none) Set.univ (rest a) Q)
      -∗ wp frame (wpE (defs₀ (F := F)) 𝒱₀ (c : Thread nD τ) none) Set.univ
        (Scf.Loop.for k0_t1_loop k0_t1_ok (1#32, 0#32, 1#32, 0#32, 0#32, 0#32) (k0_t1_body (F := F) i selM (Memref.isWhole_whole _) xM (Memref.isWhole_whole _) yM (Memref.isWhole_whole _) outM (Memref.isWhole_whole _)
          outM (Memref.isWhole_whole _) accM (Memref.isWhole_whole _) tabM (Memref.isWhole_whole _) cc0_scoped2 cc0_scoped3 xR (Memref.isWhole_whole _) cc0_scoped5
          yR (Memref.isWhole_whole _) cc0_scoped7 v6 v12 v30 v31 c0) >>= rest) Q) := by
  subst h6
  have h := Scf.wp_for_bind frame (wpE (defs₀ (F := F)) 𝒱₀ (c : Thread nD τ) none) Set.univ k0_t1_loop.lb k0_t1_loop.ub k0_t1_loop.st k0_t1_ok
    (1#32, 0#32, 1#32, 0#32, 0#32, 0#32) (fun k a => k0_t1_body (F := F) i selM (Memref.isWhole_whole _) xM (Memref.isWhole_whole _) yM (Memref.isWhole_whole _) outM (Memref.isWhole_whole _)
          outM (Memref.isWhole_whole _) accM (Memref.isWhole_whole _) tabM (Memref.isWhole_whole _) cc0_scoped2 cc0_scoped3 xR (Memref.isWhole_whole _) cc0_scoped5
          yR (Memref.isWhole_whole _) cc0_scoped7 (Scalar.muli (BitVec.ofNat 32 (i 0).val) 1#32) v12 v30 v31 c0 k a)
    (fun k a => iprop(⌜a = carry k⌝ ∗ resAt c i X Y T k (accAt c i X Y T f0 k)))
    (fun k a => by
      rw [accAt_succ c i X Y T f0 k]
      iintro ⟨%ha, H⟩
      subst ha
      iapply (trip_spec c i X Y T v12 v30 v31 c0 k (accAt c i X Y T f0 k)); iexact H) (kk := rest) (Q := Q)
  iintro H0 HK
  iapply h $$ [H0]
  · isplitr; · ipureintro; decide
    iexact H0
  iintro %a ⟨-, H⟩
  have e : Scf.trips k0_t1_loop.lb k0_t1_loop.ub k0_t1_loop.st = 16 := trips_eq
  have e' : resAt c i X Y T (Scf.trips k0_t1_loop.lb k0_t1_loop.ub k0_t1_loop.st) (accAt c i X Y T f0 (Scf.trips k0_t1_loop.lb k0_t1_loop.ub k0_t1_loop.st))
      ⊢ resAt c i X Y T 16 (accAt c i X Y T f0 16) := by rw [e]
  iapply HK; iapply e'; iexact H

end Trip

end Cert.Proof.Hist

end
end
-- ==== Proof.Body.lean ====
/-
  The body of the first call at one grid point: the selector table copied in, the accumulator cleared, the two rings
  started, the sixteen trips, and the accumulator copied out to the row group's rows of the result.
-/
module

public import proofs.«01_k».proof.Proof.Trip

@[expose] public section

noncomputable section

namespace Cert.Proof.Hist

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

theorem outOff_inb (r : Fin 2) : ∀ a, outOff r a + S24x16.size a ≤ S48x16.size a := by
  have := r.isLt; intro a; fin_cases a
  · show 24 * r.val + 24 ≤ 48; omega
  · show 0 + 16 ≤ 16; omega
/-- The rows of the result that row group `r` writes. -/
def rows (r : Fin 2) : Memref sig .tc .hbm S24x16 .f32 :=
  outM.slice (Rect.unit (s := S48x16) (outOff r) S24x16.size (outOff_inb r)) (fun _ => rfl)
instance (r : Fin 2) : ClosedOff (outOff r) := ⟨outOff r, rfl⟩
@[sl_canon] theorem canon18 (i : grid0.Coords) (hh hs) : outM.slice (Rect.unit (s := S48x16) (k0_off18 i) S24x16.size hh) hs = rows (rowOf i) := by
  have e := off18_eq i
  unfold rows
  exact Memref.slice_unit_congr _ e _ _ _ _

section Body
variable (c : Dev nD) (i : grid0.Coords)
  (X : Buf (Elt F) (xM.view.loc (c : Thread nD τ))) (Y : Buf (Elt F) (yM.view.loc (c : Thread nD τ)))
  (S : Buf (Elt F) (selM.view.loc (c : Thread nD τ)))

abbrev selP : sProp 𝕄 := selM.view.loc (c : Thread nD τ) ↦[selM.view.set]{fullShare} S
abbrev rowsP (r : Fin 2) (f : Buf (Elt F) ((rows r).view.loc (c : Thread nD τ))) : sProp 𝕄 :=
  (rows r).view.loc (c : Thread nD τ) ↦[(rows r).view.set]{fullShare} f

/-- The body at a grid point. -/
abbrev bodyG : Prog (TpuEff nD τ sig (Elt F) Λ₀ .tc) PUnit :=
  cc0__ i selM (Memref.isWhole_whole _) xM (Memref.isWhole_whole _) yM (Memref.isWhole_whole _) outM (Memref.isWhole_whole _)
    outM (Memref.isWhole_whole _) accM (Memref.isWhole_whole _) tabM (Memref.isWhole_whole _) cc0_scoped2 cc0_scoped3 xR (Memref.isWhole_whole _) cc0_scoped5
    yR (Memref.isWhole_whole _) cc0_scoped7

/-- A ring at rest: every block of the row group at home, both slots free. -/
abbrev idleP (A : Img) (B : Slots) (C : Cells) (Z : Buf (Elt F) (A.view.loc (c : Thread nD τ))) : sProp 𝕄 :=
  iprop(bigSep Finset.univ (homeP c A (rowOf i) Z) ∗ freeP c B C 0 ∗ freeP c B C 1)

theorem idle_open (A : Img) (B : Slots) (C : Cells) (Z : Buf (Elt F) (A.view.loc (c : Thread nD τ))) :
    idleP c i A B C Z = iprop((homeP c A (rowOf i) Z 0 ∗ bigSep (Ring.homeSet 1 0) (homeP c A (rowOf i) Z)) ∗ freeP c B C 0 ∗ freeP c B C 1) := by
  have e : (Finset.univ : Finset (Fin 16)) = insert 0 (Ring.homeSet (NB := 16) 1 0) := by decide
  unfold idleP
  rw [e, bigSep_insert (by decide)]; rfl

/-- The selector table as the body's copy of it reads. -/
abbrev tabOf : Buf (Elt F) (tabM.view.loc (c : Thread nD τ)) :=
  tabM.view.writes (Elt F) tabM.view.junk [⟨Rect.whole S5632x16, ReadAs.same.apply (selM.view.read (Elt F) S)⟩]
/-- The accumulator cleared. -/
abbrev accZero : Buf (Elt F) (accM.view.loc (c : Thread nD τ)) :=
  accM.view.writes (Elt F) accM.view.junk [⟨R00, shapeCast S24x16 (broadcast S24x16 (Scalar.ofBits (F := F) .f32 0#32)) shapeCasts_S24x16_S24x16⟩]
/-- The accumulator after the sixteen trips. -/
abbrev accDone : Buf (Elt F) (accM.view.loc (c : Thread nD τ)) := accAt c i X Y (tabOf c S) (accZero c) 16

theorem ring_done (A : Img) (B : Slots) (C : Cells) (Z : Buf (Elt F) (A.view.loc (c : Thread nD τ))) :
    ringAt c A B C (rowOf i) Z 16 = idleP c i A B C Z := by
  unfold ringAt
  rw [if_neg (by decide), Ring.homeSet_last 1 16 (by decide)]; rfl

theorem entails_of_eq {P Q : sProp 𝕄} (e : P = Q) : P ⊢ Q := e ▸ .rfl

theorem resAt_done (T : Buf (Elt F) (tabM.view.loc (c : Thread nD τ))) (f : Buf (Elt F) (accM.view.loc (c : Thread nD τ))) :
    resAt c i X Y T 16 f = iprop(accP c f ∗ tabP c T ∗ (∃ W, owes (c : Thread nD τ) 0 W) ∗ idleP c i xM xR cc0_scoped5 X ∗ idleP c i yM yR cc0_scoped7 Y) := by
  unfold resAt
  rw [ring_done c i xM xR cc0_scoped5 X, ring_done c i yM yR cc0_scoped7 Y]

/-- What the body finds: the accumulator, the table's copy and the rows of the result at anything. -/
abbrev PRE (A0 : Buf (Elt F) (accM.view.loc (c : Thread nD τ))) (T0 : Buf (Elt F) (tabM.view.loc (c : Thread nD τ)))
    (O0 : Buf (Elt F) ((rows (rowOf i)).view.loc (c : Thread nD τ))) (W : Waits sig Unit) : sProp 𝕄 :=
  iprop(accP c A0 ∗ tabP c T0 ∗ selP c S ∗ idleP c i xM xR cc0_scoped5 X ∗ idleP c i yM yR cc0_scoped7 Y ∗ rowsP c (rowOf i) O0
    ∗ semVal ((c : Thread nD τ), SemLoc.dma cc0_scoped2.sem) 0 ∗ semVal ((c : Thread nD τ), SemLoc.dma cc0_scoped3.sem) 0
    ∗ owes (c : Thread nD τ) 0 W)
/-- What it leaves: the images and the table as they were, the accumulator's sums in the row group's rows. -/
abbrev POST (O0 : Buf (Elt F) ((rows (rowOf i)).view.loc (c : Thread nD τ))) : sProp 𝕄 :=
  iprop((∃ A0, accP c A0) ∗ (∃ T0, tabP c T0) ∗ selP c S ∗ idleP c i xM xR cc0_scoped5 X ∗ idleP c i yM yR cc0_scoped7 Y
    ∗ rowsP c (rowOf i) ((rows (rowOf i)).view.writes (Elt F) O0 [⟨Rect.whole S24x16, ReadAs.same.apply (accM.view.read (Elt F) (accDone c i X Y S))⟩])
    ∗ semVal ((c : Thread nD τ), SemLoc.dma cc0_scoped2.sem) 0 ∗ semVal ((c : Thread nD τ), SemLoc.dma cc0_scoped3.sem) 0
    ∗ ∃ W, owes (c : Thread nD τ) 0 W)

theorem bodyRun (A0 : Buf (Elt F) (accM.view.loc (c : Thread nD τ))) (T0 : Buf (Elt F) (tabM.view.loc (c : Thread nD τ)))
    (O0 : Buf (Elt F) ((rows (rowOf i)).view.loc (c : Thread nD τ))) (W : Waits sig Unit) (Q : PUnit → sProp 𝕄) :
    iprop(PRE c i X Y S A0 T0 O0 W ∗ (POST c i X Y S O0 -∗ Q ⟨⟩))
      ⊢ wp frame (wpE (defs₀ (F := F)) 𝒱₀ (c : Thread nD τ) none) Set.univ (bodyG (F := F) i) Q := by
  unfold PRE
  rw [idle_open, idle_open]
  iintro ⟨⟨HA, HT, HS, ⟨⟨Hx, Hxs⟩, ⟨Hcx0, %fx, Hx0⟩, Hx1⟩, ⟨⟨Hy, Hys⟩, ⟨Hcy0, %fy, Hy0⟩, Hy1⟩, HO, Hc2, Hc3, HW⟩, Hk⟩
  dsimp only [bodyG]
  sl_unfold [cc0__, k0_part9, k0_part10, k0_part11]
  sl_exec
  iapply (loop_spec c i X Y (tabOf c S) (accZero c) _ _ _ _ _ rfl) $$ [HA HT HW Hxs Hx1 Hcx0 Hys Hy1 Hcy0]
  · unfold resAt ringAt
    isplitl [HA]; · iexact HA
    isplitl [HT]; · iexact HT
    isplitl [HW]; · iexists _; iexact HW
    isplitl [Hxs Hx1 Hcx0]
    · isplitl [Hxs]; · iexact Hxs
      isplitl [Hcx0]; · irw [if_pos (show 0 < 16 by decide)]; iexists fx; iexact Hcx0
      iexact Hx1
    · isplitl [Hys]; · iexact Hys
      isplitl [Hcy0]; · irw [if_pos (show 0 < 16 by decide)]; iexists fy; iexact Hcy0
      iexact Hy1
  iintro %a HR
  ihave HR := (entails_of_eq (resAt_done c i X Y _ _)) $$ HR
  icases HR with ⟨HA, HT, ⟨%W', HW⟩, HX, HY⟩
  sl_exec
  sl_step
  iapply Hk
  isplitl [HA]; · iexists _; iexact HA
  isplitl [HT]; · iexists _; iexact HT
  isplitl [HS]; · iexact HS
  isplitl [HX]; · iexact HX
  isplitl [HY]; · iexact HY
  isplitl [HO]; · iexact HO
  isplitl [Hc2]; · iexact Hc2
  isplitl [Hc3]; · iexact Hc3
  iexists _; iexact HW

end Body

end Cert.Proof.Hist

end
end
-- ==== Proof.Pieces.lean ====
/-
  The arrays of the first call cut into the pieces its body works on: an image into the blocks of the two row groups,
  a ring into its two slots, the result into the rows of the two groups.
-/
module

public import proofs.«01_k».proof.Proof.Body
public import Idealize.ShloMosaic.Lib.Pipeline.Regions

@[expose] public section

noncomputable section

namespace Cert.Proof.Hist

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

/-- The elements of block `p.2` of row group `p.1`, of slot `s`, of the result's rows `r`. -/
def blkSet (p : Fin 2 × Fin 16) : Finset S48x512x512.Idx :=
  (Rect.unit (s := S48x512x512) (blkOff p.1 p.2) S24x32x512.size (blkOff_inb p.1 p.2)).set
def slotSet (s : Fin 2) : Finset S2x24x32x512.Idx :=
  (Rect.unit (s := S2x24x32x512) (slotOff s) S1x24x32x512.size (slotOff_inb s)).set
def rowSet (r : Fin 2) : Finset S48x16.Idx :=
  (Rect.unit (s := S48x16) (outOff r) S24x16.size (outOff_inb r)).set

theorem mem_blkSet (p : Fin 2 × Fin 16) (y : S48x512x512.Idx) : y ∈ blkSet p ↔ (y 0).val / 24 = p.1.val ∧ (y 1).val / 32 = p.2.val := by
  unfold blkSet; rw [Rect.mem_set_unit]
  have h2 : (y 2).val < 512 := (y 2).isLt
  constructor
  · intro H
    have a0 : 24 * p.1.val ≤ (y 0).val ∧ (y 0).val < 24 * p.1.val + 24 := H 0
    have a1 : 32 * p.2.val ≤ (y 1).val ∧ (y 1).val < 32 * p.2.val + 32 := H 1
    omega
  · rintro ⟨h0, h1⟩ a; fin_cases a
    · show 24 * p.1.val ≤ (y 0).val ∧ (y 0).val < 24 * p.1.val + 24; omega
    · show 32 * p.2.val ≤ (y 1).val ∧ (y 1).val < 32 * p.2.val + 32; omega
    · show 0 ≤ (y 2).val ∧ (y 2).val < 0 + 512; omega
theorem mem_slotSet (s : Fin 2) (y : S2x24x32x512.Idx) : y ∈ slotSet s ↔ (y 0).val = s.val := by
  unfold slotSet; rw [Rect.mem_set_unit]
  have h1 : (y 1).val < 24 := (y 1).isLt
  have h2 : (y 2).val < 32 := (y 2).isLt
  have h3 : (y 3).val < 512 := (y 3).isLt
  constructor
  · intro H; have a0 : s.val ≤ (y 0).val ∧ (y 0).val < s.val + 1 := H 0; omega
  · intro h0 a; fin_cases a
    · show s.val ≤ (y 0).val ∧ (y 0).val < s.val + 1; omega
    · show 0 ≤ (y 1).val ∧ (y 1).val < 0 + 24; omega
    · show 0 ≤ (y 2).val ∧ (y 2).val < 0 + 32; omega
    · show 0 ≤ (y 3).val ∧ (y 3).val < 0 + 512; omega
theorem mem_rowSet (r : Fin 2) (y : S48x16.Idx) : y ∈ rowSet r ↔ (y 0).val / 24 = r.val := by
  unfold rowSet; rw [Rect.mem_set_unit]
  have h1 : (y 1).val < 16 := (y 1).isLt
  constructor
  · intro H; have a0 : 24 * r.val ≤ (y 0).val ∧ (y 0).val < 24 * r.val + 24 := H 0; omega
  · intro h0 a; fin_cases a
    · show 24 * r.val ≤ (y 0).val ∧ (y 0).val < 24 * r.val + 24; omega
    · show 0 ≤ (y 1).val ∧ (y 1).val < 0 + 16; omega

theorem blkSet_disjoint : ∀ p p', p ≠ p' → Disjoint (blkSet p) (blkSet p') := by
  intro p p' hne; rw [Finset.disjoint_left]; intro y hy hy'
  rw [mem_blkSet] at hy hy'
  exact hne (Prod.ext (Fin.ext (hy.1.symm.trans hy'.1)) (Fin.ext (hy.2.symm.trans hy'.2)))
theorem blkSet_cover : (Finset.univ : Finset (Fin 2 × Fin 16)).biUnion blkSet = Finset.univ := by
  ext y; simp only [Finset.mem_biUnion, Finset.mem_univ, true_and, iff_true]
  have h0 : (y 0).val < 48 := (y 0).isLt
  have h1 : (y 1).val < 512 := (y 1).isLt
  exact ⟨(⟨(y 0).val / 24, by omega⟩, ⟨(y 1).val / 32, by omega⟩), by rw [mem_blkSet]; exact ⟨rfl, rfl⟩⟩
theorem slotSet_disjoint : ∀ s s', s ≠ s' → Disjoint (slotSet s) (slotSet s') := by
  intro s s' hne; rw [Finset.disjoint_left]; intro y hy hy'
  rw [mem_slotSet] at hy hy'; exact hne (Fin.ext (hy.symm.trans hy'))
theorem slotSet_cover : (Finset.univ : Finset (Fin 2)).biUnion slotSet = Finset.univ := by
  ext y; simp only [Finset.mem_biUnion, Finset.mem_univ, true_and, iff_true]
  exact ⟨⟨(y 0).val, (y 0).isLt⟩, by rw [mem_slotSet]⟩
theorem rowSet_disjoint : ∀ r r', r ≠ r' → Disjoint (rowSet r) (rowSet r') := by
  intro r r' hne; rw [Finset.disjoint_left]; intro y hy hy'
  rw [mem_rowSet] at hy hy'; exact hne (Fin.ext (hy.symm.trans hy'))
theorem rowSet_cover : (Finset.univ : Finset (Fin 2)).biUnion rowSet = Finset.univ := by
  ext y; simp only [Finset.mem_biUnion, Finset.mem_univ, true_and, iff_true]
  have h0 : (y 0).val < 48 := (y 0).isLt
  exact ⟨⟨(y 0).val / 24, by omega⟩, by rw [mem_rowSet]⟩

/-- The pieces of whole arrays are these sets. -/
theorem x_set (r : Fin 2) (b : Fin 16) : (blk xM r b).view.set = blkSet (r, b) := View.set_slice_whole _ _
theorem y_set (r : Fin 2) (b : Fin 16) : (blk yM r b).view.set = blkSet (r, b) := View.set_slice_whole _ _
theorem xs_set (s : Fin 2) : (slot xR s).view.set = slotSet s := (View.set_reshape _ _).trans (View.set_slice_whole _ _)
theorem ys_set (s : Fin 2) : (slot yR s).view.set = slotSet s := (View.set_reshape _ _).trans (View.set_slice_whole _ _)
theorem rows_set (r : Fin 2) : (rows r).view.set = rowSet r := View.set_slice_whole _ _

theorem bigSep_two (Φ : Fin 2 → sProp 𝕄) : bigSep Finset.univ Φ = iprop(Φ 0 ∗ Φ 1) :=
  bigSep_univ_eq_bigSepL [(0 : Fin 2), (1 : Fin 2)] (by decide) (by decide) Φ

variable (c : Dev nD)

/-- An image whole is the blocks of its two row groups at home. -/
theorem x_eq (X : Buf (Elt F) (xM.view.loc (c : Thread nD τ))) :
    (((c : Thread nD τ).loc main_v0) ↦{fullShare} X : sProp 𝕄)
      = iprop(bigSep Finset.univ (homeP c xM 0 X) ∗ bigSep Finset.univ (homeP c xM 1 X)) := by
  rw [Ring.pointsTo_blocks (ℓ := (c : Thread nD τ).loc main_v0) blkSet blkSet_disjoint blkSet_cover, bigSep_univ_prod, bigSep_two]
  refine congrArg₂ _ ?_ ?_ <;> exact bigSep_congr fun b _ => by rw [← x_set]; rfl
theorem y_eq (Y : Buf (Elt F) (yM.view.loc (c : Thread nD τ))) :
    (((c : Thread nD τ).loc main_v1) ↦{fullShare} Y : sProp 𝕄)
      = iprop(bigSep Finset.univ (homeP c yM 0 Y) ∗ bigSep Finset.univ (homeP c yM 1 Y)) := by
  rw [Ring.pointsTo_blocks (ℓ := (c : Thread nD τ).loc main_v1) blkSet blkSet_disjoint blkSet_cover, bigSep_univ_prod, bigSep_two]
  refine congrArg₂ _ ?_ ?_ <;> exact bigSep_congr fun b _ => by rw [← y_set]; rfl

/-- A ring whole is its two slots, and back. -/
theorem xs_eq (s : Fin 2) (f) : slotP c xR s f = (((c : Thread nD τ).loc cc0_scoped4) ↦[slotSet s]{fullShare} f : sProp 𝕄) :=
  congrArg (fun I => (_ ↦[I]{fullShare} f : sProp 𝕄)) (xs_set s)
theorem ys_eq (s : Fin 2) (f) : slotP c yR s f = (((c : Thread nD τ).loc cc0_scoped6) ↦[slotSet s]{fullShare} f : sProp 𝕄) :=
  congrArg (fun I => (_ ↦[I]{fullShare} f : sProp 𝕄)) (ys_set s)

/-- One buffer in slots, whichever buffer it is: `P s f` holds slot `s` at `f`. -/
theorem slots_split {ℓ : Loc nD τ sig} (I : Fin 2 → Finset (Idx ℓ)) (hd : ∀ s s', s ≠ s' → Disjoint (I s) (I s')) (hc : Finset.univ.biUnion I = Finset.univ) :
    iprop(∃ f : Buf (Elt F) ℓ, ℓ ↦{fullShare} f) ⊢ (iprop((∃ f, ℓ ↦[I 0]{fullShare} f) ∗ ∃ f, ℓ ↦[I 1]{fullShare} f) : sProp 𝕄) := by
  iintro ⟨%f, H⟩
  ihave H2 := (entails_of_eq ((Ring.pointsTo_blocks (Ix := Unit) (Name := ℕ) (U := UU nD τ) (Lvl := ℕ) (q := fullShare) (ℓ := ℓ) I hd hc f).trans (bigSep_two _))) $$ H
  icases H2 with ⟨H0, H1⟩
  isplitl [H0] <;> iexists f <;> iassumption
theorem slots_join {ℓ : Loc nD τ sig} (I : Fin 2 → Finset (Idx ℓ)) (hd : ∀ s s', s ≠ s' → Disjoint (I s) (I s')) (hc : Finset.univ.biUnion I = Finset.univ) :
    iprop((∃ f, ℓ ↦[I 0]{fullShare} f) ∗ ∃ f, ℓ ↦[I 1]{fullShare} f) ⊢ (iprop(∃ f : Buf (Elt F) ℓ, ℓ ↦{fullShare} f) : sProp 𝕄) := by
  iintro ⟨⟨%f0, H0⟩, ⟨%f1, H1⟩⟩
  iapply (Ring.pointsTo_blocks_join_exists (ℓ := ℓ) I hd hc f0)
  irw [bigSep_two]
  isplitl [H0]
  · iexists f0; iexact H0
  · iexists f1; iexact H1

theorem xs_split : iprop(∃ f : Buf (Elt F) ((c : Thread nD τ).loc cc0_scoped4), ((c : Thread nD τ).loc cc0_scoped4) ↦{fullShare} f)
    ⊢ (iprop((∃ f, slotP c xR 0 f) ∗ ∃ f, slotP c xR 1 f) : sProp 𝕄) := by
  simp only [xs_eq]; exact slots_split (ℓ := (c : Thread nD τ).loc cc0_scoped4) slotSet slotSet_disjoint slotSet_cover
theorem xs_join : iprop((∃ f, slotP c xR 0 f) ∗ ∃ f, slotP c xR 1 f)
    ⊢ (iprop(∃ f : Buf (Elt F) ((c : Thread nD τ).loc cc0_scoped4), ((c : Thread nD τ).loc cc0_scoped4) ↦{fullShare} f) : sProp 𝕄) := by
  simp only [xs_eq]; exact slots_join (ℓ := (c : Thread nD τ).loc cc0_scoped4) slotSet slotSet_disjoint slotSet_cover
theorem ys_split : iprop(∃ f : Buf (Elt F) ((c : Thread nD τ).loc cc0_scoped6), ((c : Thread nD τ).loc cc0_scoped6) ↦{fullShare} f)
    ⊢ (iprop((∃ f, slotP c yR 0 f) ∗ ∃ f, slotP c yR 1 f) : sProp 𝕄) := by
  simp only [ys_eq]; exact slots_split (ℓ := (c : Thread nD τ).loc cc0_scoped6) slotSet slotSet_disjoint slotSet_cover
theorem ys_join : iprop((∃ f, slotP c yR 0 f) ∗ ∃ f, slotP c yR 1 f)
    ⊢ (iprop(∃ f : Buf (Elt F) ((c : Thread nD τ).loc cc0_scoped6), ((c : Thread nD τ).loc cc0_scoped6) ↦{fullShare} f) : sProp 𝕄) := by
  simp only [ys_eq]; exact slots_join (ℓ := (c : Thread nD τ).loc cc0_scoped6) slotSet slotSet_disjoint slotSet_cover

/-- The result whole is the rows of its two groups; -/
theorem out_eq (f : Buf (Elt F) ((c : Thread nD τ).loc main_v16)) :
    (((c : Thread nD τ).loc main_v16) ↦{fullShare} f : sProp 𝕄) = iprop(rowsP c 0 f ∗ rowsP c 1 f) := by
  rw [Ring.pointsTo_blocks (ℓ := (c : Thread nD τ).loc main_v16) rowSet rowSet_disjoint rowSet_cover, bigSep_two, ← rows_set, ← rows_set]; rfl
/-- and rows held at contents of their own make it whole at these. -/
def glue (f : Fin 2 → Buf (Elt F) ((c : Thread nD τ).loc main_v16)) : Buf (Elt F) ((c : Thread nD τ).loc main_v16) :=
  fun y => f ⟨(show S48x16.Idx from y) 0 / 24, by have : ((show S48x16.Idx from y) 0).val < 48 := ((show S48x16.Idx from y) 0).isLt; omega⟩ y
theorem glue_eq (f : Fin 2 → Buf (Elt F) ((c : Thread nD τ).loc main_v16)) (r : Fin 2) (y : S48x16.Idx) (h : y ∈ rowSet r) : glue c f y = f r y := by
  rw [mem_rowSet] at h
  unfold glue
  exact congrArg (fun r => f r y) (Fin.ext h)
theorem out_join (f : Fin 2 → Buf (Elt F) ((c : Thread nD τ).loc main_v16)) :
    (iprop(rowsP c 0 (f 0) ∗ rowsP c 1 (f 1)) : sProp 𝕄) = (((c : Thread nD τ).loc main_v16) ↦{fullShare} glue c f) := by
  rw [out_eq]
  refine congrArg₂ _ ?_ ?_
  · refine (pointsTo_congr fun y hy => ?_).symm
    rw [rows_set] at hy; exact glue_eq c f 0 y hy
  · refine (pointsTo_congr fun y hy => ?_).symm
    rw [rows_set] at hy; exact glue_eq c f 1 y hy

end Cert.Proof.Hist

end
end
-- ==== Proof.Loss.lean ====
/-
  The body of the second call: it loads the 48 × 16 array of sums and stores one number computed from it.
-/
module

public import proofs.«01_k».proof.Proof.Pieces

@[expose] public section

noncomputable section

namespace Cert.Proof.Hist

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

section
variable (c : Dev nD) (a0 : Memref sig .tc .vmem S48x16 .f32) (h0 : a0.IsWhole) (a1 : Memref sig .tc .vmem S1x1 .f32) (h1 : a1.IsWhole)

abbrev inP (f : Buf (Elt F) (a0.view.loc (c : Thread nD τ))) : sProp 𝕄 := a0.view.loc (c : Thread nD τ) ↦[a0.view.set]{fullShare} f
abbrev resP (f : Buf (Elt F) (a1.view.loc (c : Thread nD τ))) : sProp 𝕄 := a1.view.loc (c : Thread nD τ) ↦[a1.view.set]{fullShare} f

/-- What it loads. -/
abbrev loaded (f : Buf (Elt F) (a0.view.loc (c : Thread nD τ))) : Vec F S48x16 .f32 :=
  a0.view.readAt (Elt F) (Rect.unit (s := S48x16) ![0, 0] S48x16.size inb_S48x16_S48x16_0_0).toLoadRect f

theorem lossRun (f : Buf (Elt F) (a0.view.loc (c : Thread nD τ))) (g : Buf (Elt F) (a1.view.loc (c : Thread nD τ))) (Q : PUnit → sProp 𝕄) :
    iprop(inP c a0 f ∗ resP c a1 g ∗ (iprop(inP c a0 f ∗ resP c a1 (a1.view.writes (Elt F) g
        [⟨Rect.unit (s := S1x1) ![0, 0] S1x1.size inb_S1x1_S1x1_0_0, k1_pay1 (loaded c a0 f)⟩])) -∗ Q ⟨⟩))
      ⊢ wp frame (wpE (defs₀ (F := F)) 𝒱₀ (c : Thread nD τ) none) Set.univ (cc1__loss_kernel (F := F) a0 h0 a1 h1) Q := by
  iintro ⟨H0, H1, Hk⟩
  sl_rw [cc1__loss_kernel_eq_skeleton]
  sl_unfold [cc1__loss_kernel_skel]
  sl_exec
  sl_step
  iapply Hk
  isplitl [H0]; · iexact H0
  iexact H1

end

end Cert.Proof.Hist

end
end
-- ==== Proof.Calls.lean ====
/-
  The two calls as the launch runs them: what each finds, keeps between its grid points and leaves.
-/
module

public import proofs.«01_k».proof.Proof.Loss
public import proofs.«01_k».proof.Proof.Gen.KernelIdeal.Regions
public import Idealize.ShloMosaic.Lib.Pipeline.RegionArrays
public import Idealize.ShloMosaic.Lib.VecWindow

@[expose] public section

noncomputable section

namespace Cert.Proof.Hist

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UU nD τ) ℕ

variable (m : (ℓ : Loc nD τ sig) → Buf (Elt F) ℓ)

/-! ## The first call -/

section First
variable (c : Dev nD)

/-- The two images, the selector table and the result as the first call finds them. -/
abbrev X₀ : Buf (Elt F) (xM.view.loc (c : Thread nD τ)) := V3 m c main_v0
abbrev Y₀ : Buf (Elt F) (yM.view.loc (c : Thread nD τ)) := V3 m c main_v1
abbrev S₀ : Buf (Elt F) (selM.view.loc (c : Thread nD τ)) := V3 m c main_v14
abbrev O₀ : Buf (Elt F) ((c : Thread nD τ).loc main_v16) := V3 m c main_v16

/-- The sums of row group `r`, and the result with them in the group's rows. -/
def sums (r : Fin 2) : S24x16.Idx → Elt F .f32 := ReadAs.same.apply (accM.view.read (Elt F) (accDone c (pt r) (X₀ m c) (Y₀ m c) (S₀ m c)))
def outG (r : Fin 2) : Buf (Elt F) ((c : Thread nD τ).loc main_v16) :=
  (rows r).view.writes (Elt F) (O₀ m c) [⟨Rect.whole S24x16, sums m c r⟩]
/-- Row group `r`'s rows before grid point `n`. -/
def outAt (n : ℕ) (r : Fin 2) : Buf (Elt F) ((c : Thread nD τ).loc main_v16) := if r.val < n then outG m c r else O₀ m c

/-- Every piece the first call's body uses, before grid point `n`. -/
def Φ₀ (n : ℕ) : sProp 𝕄 :=
  iprop((∃ A0, accP (F := F) c A0) ∗ (∃ T0, tabP (F := F) c T0) ∗ selP c (S₀ m c)
    ∗ (bigSep Finset.univ (homeP c xM 0 (X₀ m c)) ∗ bigSep Finset.univ (homeP c xM 1 (X₀ m c)))
    ∗ (bigSep Finset.univ (homeP c yM 0 (Y₀ m c)) ∗ bigSep Finset.univ (homeP c yM 1 (Y₀ m c)))
    ∗ (freeP (F := F) c xR cc0_scoped5 0 ∗ freeP (F := F) c xR cc0_scoped5 1) ∗ (freeP (F := F) c yR cc0_scoped7 0 ∗ freeP (F := F) c yR cc0_scoped7 1)
    ∗ (rowsP c 0 (outAt m c n 0) ∗ rowsP c 1 (outAt m c n 1))
    ∗ semVal ((c : Thread nD τ), SemLoc.dma cc0_scoped2.sem) 0 ∗ semVal ((c : Thread nD τ), SemLoc.dma cc0_scoped3.sem) 0
    ∗ (∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f))

/-- The body at the grid point of row group `r`. -/
theorem bodyPt (i : grid0.Coords) (r : Fin 2) (hi : i = pt r) (X : Buf (Elt F) (xM.view.loc (c : Thread nD τ))) (Y : Buf (Elt F) (yM.view.loc (c : Thread nD τ)))
    (S : Buf (Elt F) (selM.view.loc (c : Thread nD τ))) (A0 : Buf (Elt F) (accM.view.loc (c : Thread nD τ))) (T0 : Buf (Elt F) (tabM.view.loc (c : Thread nD τ)))
    (O : Buf (Elt F) ((c : Thread nD τ).loc main_v16)) (W : Waits sig Unit) (Q : PUnit → sProp 𝕄) :
    iprop(iprop(accP c A0 ∗ tabP c T0 ∗ selP c S ∗ bigSep Finset.univ (homeP c xM r X) ∗ (freeP (F := F) c xR cc0_scoped5 0 ∗ freeP (F := F) c xR cc0_scoped5 1)
        ∗ bigSep Finset.univ (homeP c yM r Y) ∗ (freeP (F := F) c yR cc0_scoped7 0 ∗ freeP (F := F) c yR cc0_scoped7 1) ∗ rowsP c r O
        ∗ semVal ((c : Thread nD τ), SemLoc.dma cc0_scoped2.sem) 0 ∗ semVal ((c : Thread nD τ), SemLoc.dma cc0_scoped3.sem) 0 ∗ owes (c : Thread nD τ) 0 W)
      ∗ (iprop((∃ A0, accP (F := F) c A0) ∗ (∃ T0, tabP (F := F) c T0) ∗ selP c S ∗ bigSep Finset.univ (homeP c xM r X) ∗ (freeP (F := F) c xR cc0_scoped5 0 ∗ freeP (F := F) c xR cc0_scoped5 1)
        ∗ bigSep Finset.univ (homeP c yM r Y) ∗ (freeP (F := F) c yR cc0_scoped7 0 ∗ freeP (F := F) c yR cc0_scoped7 1)
        ∗ rowsP c r ((rows r).view.writes (Elt F) O [⟨Rect.whole S24x16, ReadAs.same.apply (accM.view.read (Elt F) (accDone c (pt r) X Y S))⟩])
        ∗ semVal ((c : Thread nD τ), SemLoc.dma cc0_scoped2.sem) 0 ∗ semVal ((c : Thread nD τ), SemLoc.dma cc0_scoped3.sem) 0 ∗ ∃ W, owes (c : Thread nD τ) 0 W) -∗ Q ⟨⟩))
      ⊢ wp frame (wpE (defs₀ (F := F)) 𝒱₀ (c : Thread nD τ) none) Set.univ (bodyG (F := F) i) Q := by
  subst hi
  have hr : rowOf (pt r) = r := rfl
  iintro ⟨⟨HA, HT, HS, HX, ⟨Hx0, Hx1⟩, HY, ⟨Hy0, Hy1⟩, HO, H2, H3, HW⟩, Hk⟩
  iapply (bodyRun c (pt r) X Y S A0 T0 O W Q)
  isplitl [HA HT HS HX Hx0 Hx1 HY Hy0 Hy1 HO H2 H3 HW]
  · isplitl [HA]; · iexact HA
    isplitl [HT]; · iexact HT
    isplitl [HS]; · iexact HS
    isplitl [HX Hx0 Hx1]
    · isplitl [HX]; · iexact HX
      isplitl [Hx0] <;> iassumption
    isplitl [HY Hy0 Hy1]
    · isplitl [HY]; · iexact HY
      isplitl [Hy0] <;> iassumption
    isplitl [HO]; · iexact HO
    isplitl [H2]; · iexact H2
    isplitl [H3]; · iexact H3
    iexact HW
  · iintro ⟨HA, HT, HS, ⟨HX, Hx0, Hx1⟩, ⟨HY, Hy0, Hy1⟩, HO, H2, H3, HW⟩
    iapply Hk
    isplitl [HA]; · iexact HA
    isplitl [HT]; · iexact HT
    isplitl [HS]; · iexact HS
    isplitl [HX]; · iexact HX
    isplitl [Hx0 Hx1]; · isplitl [Hx0] <;> iassumption
    isplitl [HY]; · iexact HY
    isplitl [Hy0 Hy1]; · isplitl [Hy0] <;> iassumption
    isplitl [HO]; · iexact HO
    isplitl [H2]; · iexact H2
    isplitl [H3]; · iexact H3
    iexact HW

end First

/-- The result of the first call. -/
def sumsAll (c : Dev nD) : Buf (Elt F) ((c : Thread nD τ).loc main_v16) := glue c fun r => outG m c r

/-! ## The second call -/

/-- What it loads, and what it leaves in its output's staging buffer. -/
abbrev st0 : Memref sig .tc .vmem S48x16 .f32 := win1_0.stage (cfg1.slots t1_0 0)
abbrev st1 : Memref sig .tc .vmem S1x1 .f32 := win1_1.stage (cfg1.slots t1_0 1)

def arr1 (c : Dev nD) (w : Fin cfg1.W) : Buf (Elt F) ((cfg1.win w).arr.view.loc (c : Thread nD τ)) :=
  match w with
  | ⟨0, _⟩ => sumsAll m c
  | ⟨1, _⟩ => V3 m c main_v17

def iblk (c : Dev nD) (w : Fin cfg1.W) (t : Fin cfg1.N) : ((cfg1.win w).xblock (cfg1.grid.coords t)).Idx → Elt F (cfg1.win w).elt :=
  ((cfg1.win w).blk t).view.read (Elt F) (arr1 m c w)

/-- The stored number. -/
def lossOf (c : Dev nD) : S1x1.Idx → Elt F .f32 := k1_pay1 (iblk m c 0 t1_0)

/-! ## The launch's data -/

def dat0 (c : Dev nD) : Dat τ (Elt F) Unit ℕ (UU nD τ) ℕ cfg0 c where
  A w := w.elim0
  after w _ := w.elim0
  Φ t := Φ₀ m c t.val
  q w := w.elim0
  owed _ := 0

def dat1 (c : Dev nD) : Dat τ (Elt F) Unit ℕ (UU nD τ) ℕ cfg1 c where
  A w := arr1 m c w
  after w t := match w with
    | ⟨0, _⟩ => iblk m c 0 t
    | ⟨1, _⟩ => lossOf m c
  Φ _ := Pipeline.scopedRest spec1 c
  q _ := fullShare
  owed _ := 0

def dats (p : Fin 2) (c : Dev nD) : Dat τ (Elt F) Unit ℕ (UU nD τ) ℕ (cfgs p) c :=
  match p with
  | ⟨0, _⟩ => dat0 m c
  | ⟨1, _⟩ => dat1 m c

/-! ## The bodies at the grid points -/

theorem defs_first : (defs₀ (F := F)) .tc cfg0.body = fun a => bodyG (grid0.coords a.1) := rfl
theorem prog_first (t : Fin cfg0.N) : (defs₀ (F := F)) .tc cfg0.body (cfg0.bodyArgs t (cfg0.slots t)) = bodyG (grid0.coords t) :=
  (congrFun defs_first _).trans rfl
theorem defs_second : (defs₀ (F := F)) .tc cfg1.body
    = fun a => cc1__loss_kernel (win1_0.stage (a.2 0)) (hstage1_0 0) (win1_1.stage (a.2 1)) (hstage1_1 0) := rfl
theorem prog_second : (defs₀ (F := F)) .tc cfg1.body (cfg1.bodyArgs t1_0 (cfg1.slots t1_0)) = cc1__loss_kernel st0 (hstage1_0 0) st1 (hstage1_1 0) :=
  (congrFun defs_second _).trans rfl

theorem coords_0 : grid0.coords t0_0 = pt 0 := by funext a; fin_cases a; rfl
theorem coords_1 : grid0.coords t0_1 = pt 1 := by funext a; fin_cases a; rfl

theorem Φ_first (c : Dev nD) (t) : (dat0 m c).Φ t = Φ₀ m c t.val := rfl

theorem outAt_0 (c : Dev nD) (r : Fin 2) : outAt m c 0 r = O₀ m c := by unfold outAt; exact if_neg (Nat.not_lt_zero _)
theorem outAt_2 (c : Dev nD) (r : Fin 2) : outAt m c 2 r = outG m c r := by unfold outAt; exact if_pos r.isLt

set_option backward.isDefEq.respectTransparency.types false in
theorem body_first (c : Dev nD) : BodyObligation (dat0 (F := F) m c) (defs₀ (F := F)) 𝒱₀ () Set.univ := fun t => by
  rw [Finset.univ_eq_empty, BI.bigSep_empty, BI.bigSep_empty, Φ_first, Φ_first]
  unfold Dat.owesAt Pipeline.owesWithin
  rw [show (dat0 m c).owed t.castSucc = 0 from rfl, show (dat0 m c).owed t.succ = 0 from rfl]
  unfold Φ₀
  iintro ⟨⟨⟨%A0, HA⟩, ⟨%T0, HT⟩, HS, ⟨HX0, HX1⟩, ⟨HY0, HY1⟩, HXr, HYr, ⟨HO0, HO1⟩, H2, H3, H4, H5⟩, ⟨%W, -, HW⟩, -⟩
  sl_rw [prog_first t]
  rcases fin_N0 t with rfl | rfl
  · iapply (bodyPt c _ 0 coords_0 (X₀ m c) (Y₀ m c) (S₀ m c) A0 T0 (outAt m c 0 0) W)
    isplitl [HA HT HS HX0 HXr HY0 HYr HO0 H2 H3 HW]
    · isplitl [HA]; · iexact HA
      isplitl [HT]; · iexact HT
      isplitl [HS]; · iexact HS
      isplitl [HX0]; · iexact HX0
      isplitl [HXr]; · iexact HXr
      isplitl [HY0]; · iexact HY0
      isplitl [HYr]; · iexact HYr
      isplitl [HO0]; · iexact HO0
      isplitl [H2]; · iexact H2
      isplitl [H3]; · iexact H3
      iexact HW
    iintro ⟨HA, HT, HS, HX0, HXr, HY0, HYr, HO0, H2, H3, ⟨%W', HW⟩⟩
    isplitr [HW]
    · isplitl [HA]; · iexact HA
      isplitl [HT]; · iexact HT
      isplitl [HS]; · iexact HS
      isplitl [HX0 HX1]; · isplitl [HX0] <;> iassumption
      isplitl [HY0 HY1]; · isplitl [HY0] <;> iassumption
      isplitl [HXr]; · iexact HXr
      isplitl [HYr]; · iexact HYr
      isplitl [HO0 HO1]
      · isplitl [HO0]; · iexact HO0
        iexact HO1
      isplitl [H2]; · iexact H2
      isplitl [H3]; · iexact H3
      isplitl [H4]; · iexact H4
      iexact H5
    isplitl [HW]
    · iexists W'; isplitr; · ipureintro; exact fun _ _ => Or.inl trivial
      iexact HW
    iempintro
  · iapply (bodyPt c _ 1 coords_1 (X₀ m c) (Y₀ m c) (S₀ m c) A0 T0 (outAt m c 1 1) W)
    isplitl [HA HT HS HX1 HXr HY1 HYr HO1 H2 H3 HW]
    · isplitl [HA]; · iexact HA
      isplitl [HT]; · iexact HT
      isplitl [HS]; · iexact HS
      isplitl [HX1]; · iexact HX1
      isplitl [HXr]; · iexact HXr
      isplitl [HY1]; · iexact HY1
      isplitl [HYr]; · iexact HYr
      isplitl [HO1]; · iexact HO1
      isplitl [H2]; · iexact H2
      isplitl [H3]; · iexact H3
      iexact HW
    iintro ⟨HA, HT, HS, HX1, HXr, HY1, HYr, HO1, H2, H3, ⟨%W', HW⟩⟩
    isplitr [HW]
    · isplitl [HA]; · iexact HA
      isplitl [HT]; · iexact HT
      isplitl [HS]; · iexact HS
      isplitl [HX0 HX1]; · isplitl [HX0] <;> iassumption
      isplitl [HY0 HY1]; · isplitl [HY0] <;> iassumption
      isplitl [HXr]; · iexact HXr
      isplitl [HYr]; · iexact HYr
      isplitl [HO0 HO1]
      · isplitl [HO0]; · iexact HO0
        iexact HO1
      isplitl [H2]; · iexact H2
      isplitl [H3]; · iexact H3
      isplitl [H4]; · iexact H4
      iexact H5
    isplitl [HW]
    · iexists W'; isplitr; · ipureintro; exact fun _ _ => Or.inl trivial
      iexact HW
    iempintro

theorem before_in (c : Dev nD) (t : Fin cfg1.N) (d) : (dat1 m c).before 0 t d = iblk m c 0 t := by
  unfold Dat.before; rw [if_pos (fetch1_0 t)]; unfold Dat.fetched Dat.blockOf iblk; dsimp only [dat1]; rfl
theorem after_in (c : Dev nD) (t : Fin cfg1.N) : (dat1 m c).after 0 t = iblk m c 0 t := by dsimp only [dat1]
theorem after_out (c : Dev nD) (t : Fin cfg1.N) : (dat1 m c).after 1 t = lossOf m c := by dsimp only [dat1]

theorem loss_read (c : Dev nD) (g : Buf (Elt F) (st1.view.loc (c : Thread nD τ))) :
    st1.view.read (Elt F) (st1.view.writes (Elt F) g
      [⟨Rect.unit (s := S1x1) ![0, 0] S1x1.size inb_S1x1_S1x1_0_0, k1_pay1 (loaded c st0 (st0.view.rep (iblk m c 0 t1_0)))⟩]) = lossOf m c := by
  refine (View.read_writes_full st1.view g _ _ _).trans ?_
  unfold lossOf
  refine congrArg k1_pay1 ?_
  exact (View.readAt_full st0.view _ _).trans (View.read_rep _ _)

set_option backward.isDefEq.respectTransparency.types false in
theorem body_second (c : Dev nD) : BodyObligation (dat1 (F := F) m c) (defs₀ (F := F)) 𝒱₀ () Set.univ := fun t => by
  rcases fin_N1 t with rfl
  rw [bigSep_W1, bigSep_W1]
  dsimp only
  simp only [before_in, after_in, after_out]
  rw [show (dat1 m c).Φ t1_0.castSucc = Pipeline.scopedRest spec1 c from rfl, show (dat1 m c).Φ t1_0.succ = Pipeline.scopedRest spec1 c from rfl]
  unfold Dat.owesAt Pipeline.owesWithin
  rw [show (dat1 m c).owed t1_0.castSucc = 0 from rfl, show (dat1 m c).owed t1_0.succ = 0 from rfl]
  unfold owns
  iintro ⟨HΦ, ⟨%W, -, HW⟩, ⟨%d0, %g0, %hg0, H0⟩, ⟨%d1, %gO, -, HO⟩⟩
  ihave H0' := (pointsTo_rep_entails (c : Thread nD τ) st0 g0 fullShare) $$ H0
  rw [hg0]
  sl_rw [prog_second]
  iapply (lossRun c st0 (hstage1_0 0) st1 (hstage1_1 0) _ gO)
  isplitl [H0']; · iexact H0'
  isplitl [HO]; · iexact HO
  iintro ⟨H0, HO⟩
  isplitl [HΦ]; · iexact HΦ
  isplitl [HW]
  · iexists W; isplitr; · ipureintro; exact fun _ _ => Or.inl trivial
    iexact HW
  isplitl [H0]
  · iexists _; isplitr; · ipureintro; exact View.read_rep _ _
    iexact H0
  iexists (st1.view.writes (Elt F) gO [⟨Rect.unit (s := S1x1) ![0, 0] S1x1.size inb_S1x1_S1x1_0_0, k1_pay1 (loaded c st0 (st0.view.rep (iblk m c 0 t1_0)))⟩])
  isplitr; · ipureintro; exact loss_read m c gO
  iexact HO

end Cert.Proof.Hist

end
end
-- ==== Proof.Run.lean ====
/-
  The launch: the two calls between the host's operations, and what every run of the program ends with.
-/
module

public import proofs.«01_k».proof.Proof.Calls

@[expose] public section

noncomputable section

namespace Cert.Proof.Hist

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg HostSeg RegionSeg)

variable {F : FTy → Type} [FloatOps F] [Named F]

local notation "𝕄" => MT nD τ sig Unit (Elt F) ℕ (UU nD τ) ℕ

abbrev EP : Emb (UR sig nD τ) (MT nD τ sig Unit (Elt F) ℕ (UU nD τ) ℕ) := embL
abbrev lvSet : GSem nD τ sig → Finset Unit := fun _ => ∅
abbrev lv0 : GSem nD τ sig → Unit → ℕ := fun _ _ => 0
/-- What rides beside the arrays between the calls: the core owes nothing. -/
abbrev restP (c : Dev nD) : sProp 𝕄 := iprop(∃ W, owes (c : Thread nD τ) 0 W)

/-- The semaphores of the first call. -/
def osem : Fin 6 → SemLoc sig
  | 0 => SemLoc.dma cc0_scoped2.sem
  | 1 => SemLoc.dma cc0_scoped3.sem
  | 2 => SemLoc.dma (cell cc0_scoped5 0).sem
  | 3 => SemLoc.dma (cell cc0_scoped5 1).sem
  | 4 => SemLoc.dma (cell cc0_scoped7 0).sem
  | 5 => SemLoc.dma (cell cc0_scoped7 1).sem

theorem ownSemFacts : Pipeline.OwnSemFacts cfg0.spec osem := by decide

theorem ownSems_eq (c : Dev nD) : (Pipeline.ownSems0 (Ix := Unit) (Name := ℕ) (U := UU nD τ) (Lvl := ℕ) (Val := Elt F) (τ := τ) osem c : sProp 𝕄)
    = iprop(semVal ((c : Thread nD τ), SemLoc.dma cc0_scoped2.sem) 0 ∗ semVal ((c : Thread nD τ), SemLoc.dma cc0_scoped3.sem) 0
        ∗ cellP c cc0_scoped5 0 ∗ cellP c cc0_scoped5 1 ∗ cellP c cc0_scoped7 0 ∗ cellP c cc0_scoped7 1) :=
  Pipeline.ownSems0_eq_of_list c osem [0, 1, 2, 3, 4, 5] (by decide) (by decide)

/-- The first call's arrays, and its arrays held at a valuation one by one. -/
abbrev firstRefs : Finset (DevRef τ sig) := ([main_v14, main_v0, main_v1, main_v16].map (Proc.devRef (τ := τ) .tc)).toFinset
theorem firstRefs_sub : firstRefs ⊆ Pipeline.ucRefs τ sig := by
  intro b hb
  simp only [List.map_cons, List.map_nil, List.mem_toFinset, List.mem_cons, List.not_mem_nil, or_false] at hb
  rcases hb with rfl | rfl | rfl | rfl <;> exact Finset.mem_filter.mpr ⟨StableHlo.devRef_mem_tcRefs _, by decide⟩
theorem held_first (c : Dev nD) (V : Valuation τ sig (Elt F)) : (StableHlo.held (c : Thread nD τ) firstRefs V : sProp 𝕄)
    = iprop(((c : Thread nD τ).loc main_v14 ↦{fullShare} V main_v14) ∗ ((c : Thread nD τ).loc main_v0 ↦{fullShare} V main_v0)
        ∗ ((c : Thread nD τ).loc main_v1 ↦{fullShare} V main_v1) ∗ ((c : Thread nD τ).loc main_v16 ↦{fullShare} V main_v16)) :=
  bigSep_eq_bigSepL [_, _, _, _] (by decide) _

variable (m : (ℓ : Loc nD τ sig) → Buf (Elt F) ℓ)

/-- The loss's array as the second call leaves it. -/
def lossArr (c : Dev nD) : Buf (Elt F) ((c : Thread nD τ).loc main_v17) := (dat1 m c).arrAt 1 cfg1.N

/-- What the calls leave in the arrays they may change. -/
def outs : Outs (F := F) := fun _ r c => Function.update (Function.update (V3 m c) main_v16 (sumsAll m c)) main_v17 (lossArr m c) r

theorem outs_16 (c : Dev nD) (n : ℕ) : outs m n main_v16 c = sumsAll m c := by
  unfold outs
  rw [Function.update_of_ne (StableHlo.devRef_ne_of_ne (by decide)), Function.update_self]
theorem outs_17 (c : Dev nD) (n : ℕ) : outs m n main_v17 c = lossArr m c := by
  unfold outs; rw [Function.update_self]
theorem outs_of (c : Dev nD) (n : ℕ) (r : Ref sig .tc) (h : r ≠ main_v16) (h' : r ≠ main_v17) : outs m n r c = V3 m c r := by
  unfold outs
  rw [Function.update_of_ne (StableHlo.devRef_ne_of_ne h'), Function.update_of_ne (StableHlo.devRef_ne_of_ne h)]

theorem V4_14 (c : Dev nD) : V4 m (outs m) c main_v14 = S₀ m c := by
  unfold V4
  rw [Function.update_of_ne (StableHlo.devRef_ne_of_ne (by decide)), Function.update_of_ne (StableHlo.devRef_ne_of_ne (by decide)),
    Function.update_of_ne (StableHlo.devRef_ne_of_ne (by decide)), Function.update_self, outs_of m c 4 _ (by decide) (by decide)]
theorem V4_0 (c : Dev nD) : V4 m (outs m) c main_v0 = X₀ m c := by
  unfold V4
  rw [Function.update_of_ne (StableHlo.devRef_ne_of_ne (by decide)), Function.update_of_ne (StableHlo.devRef_ne_of_ne (by decide)),
    Function.update_self, outs_of m c 4 _ (by decide) (by decide)]
theorem V4_1 (c : Dev nD) : V4 m (outs m) c main_v1 = Y₀ m c := by
  unfold V4
  rw [Function.update_of_ne (StableHlo.devRef_ne_of_ne (by decide)), Function.update_self, outs_of m c 4 _ (by decide) (by decide)]
theorem V4_16 (c : Dev nD) : V4 m (outs m) c main_v16 = sumsAll m c := by
  unfold V4
  rw [Function.update_self, outs_16]

/-- Outside its arrays the first call changes nothing. -/
theorem held_rest (c : Dev nD) : (StableHlo.held (c : Thread nD τ) (Pipeline.ucRefs τ sig \ firstRefs) (V3 m c) : sProp 𝕄)
    = StableHlo.held (c : Thread nD τ) (Pipeline.ucRefs τ sig \ firstRefs) (V4 m (outs m) c) := by
  refine StableHlo.held_congr _ fun b hb => ?_
  have hn := (Finset.mem_sdiff.mp hb).2
  simp only [List.map_cons, List.map_nil, List.mem_toFinset, List.mem_cons, List.not_mem_nil, or_false, not_or] at hn
  unfold V4
  rw [Function.update_of_ne hn.2.2.2, Function.update_of_ne hn.2.2.1, Function.update_of_ne hn.2.1, Function.update_of_ne hn.1]

theorem selP_eq (c : Dev nD) (S : Buf (Elt F) ((c : Thread nD τ).loc main_v14)) :
    (selP c S : sProp 𝕄) = ((c : Thread nD τ).loc main_v14 ↦{fullShare} S) := by
  show _ = pointsTo _ Finset.univ _ _
  rw [← show selM.view.set = Finset.univ from View.set_whole _]
theorem accP_eq (c : Dev nD) (f : Buf (Elt F) ((c : Thread nD τ).loc cc0_scoped0)) :
    (accP c f : sProp 𝕄) = ((c : Thread nD τ).loc cc0_scoped0 ↦{fullShare} f) := by
  show _ = pointsTo _ Finset.univ _ _
  rw [← show accM.view.set = Finset.univ from View.set_whole _]
theorem tabP_eq (c : Dev nD) (f : Buf (Elt F) ((c : Thread nD τ).loc cc0_scoped1)) :
    (tabP c f : sProp 𝕄) = ((c : Thread nD τ).loc cc0_scoped1 ↦{fullShare} f) := by
  show _ = pointsTo _ Finset.univ _ _
  rw [← show tabM.view.set = Finset.univ from View.set_whole _]

theorem acc_ex (c : Dev nD) : (iprop(∃ f, accP c f) : sProp 𝕄) = iprop(∃ f, (c : Thread nD τ).loc cc0_scoped0 ↦{fullShare} f) :=
  congrArg _ (funext fun f => accP_eq c f)
theorem tab_ex (c : Dev nD) : (iprop(∃ f, tabP c f) : sProp 𝕄) = iprop(∃ f, (c : Thread nD τ).loc cc0_scoped1 ↦{fullShare} f) :=
  congrArg _ (funext fun f => tabP_eq c f)

/-- What the first call keeps, from its arrays, its semaphores and its scoped buffers, whatever these hold. -/
theorem gather (c : Dev nD) (S : Buf (Elt F) ((c : Thread nD τ).loc main_v14)) (X : Buf (Elt F) ((c : Thread nD τ).loc main_v0))
    (Y : Buf (Elt F) ((c : Thread nD τ).loc main_v1)) (R : sProp 𝕄) :
    iprop(((((c : Thread nD τ).loc main_v14 ↦{fullShare} S) ∗ ((c : Thread nD τ).loc main_v0 ↦{fullShare} X) ∗ ((c : Thread nD τ).loc main_v1 ↦{fullShare} Y) ∗ R)
        ∗ Pipeline.ownSems0 osem c) ∗ Pipeline.scopedRest cfg0.spec c)
      ⊢ iprop((∃ A0, accP c A0) ∗ (∃ T0, tabP c T0) ∗ selP c S
        ∗ (bigSep Finset.univ (homeP c xM 0 X) ∗ bigSep Finset.univ (homeP c xM 1 X))
        ∗ (bigSep Finset.univ (homeP c yM 0 Y) ∗ bigSep Finset.univ (homeP c yM 1 Y))
        ∗ (freeP c xR cc0_scoped5 0 ∗ freeP c xR cc0_scoped5 1) ∗ (freeP c yR cc0_scoped7 0 ∗ freeP c yR cc0_scoped7 1)
        ∗ R ∗ semVal ((c : Thread nD τ), SemLoc.dma cc0_scoped2.sem) 0 ∗ semVal ((c : Thread nD τ), SemLoc.dma cc0_scoped3.sem) 0
        ∗ (∃ f, (c : Thread nD τ).loc cc1_stg0_0 ↦{fullShare} f) ∗ (∃ f, (c : Thread nD τ).loc cc1_stg1_0 ↦{fullShare} f)) := by
  rw [ownSems_eq, x_eq, y_eq]
  iintro ⟨⟨⟨HS, HX, HY, HO⟩, H2, H3, Hx0, Hx1, Hy0, Hy1⟩, HR⟩
  ihave HR' := (entails_of_eq (scopedRest0_eq c)) $$ HR
  rw [acc_ex, tab_ex, selP_eq]
  icases HR' with ⟨HA, HT, HXr, HYr, H4, H5⟩
  ihave HX2 := (xs_split c) $$ HXr
  icases HX2 with ⟨HX0, HX1⟩
  ihave HY2 := (ys_split c) $$ HYr
  icases HY2 with ⟨HY0, HY1⟩
  isplitl [HA]; · iexact HA
  isplitl [HT]; · iexact HT
  isplitl [HS]; · iexact HS
  isplitl [HX]; · iexact HX
  isplitl [HY]; · iexact HY
  isplitl [Hx0 Hx1 HX0 HX1]
  · isplitl [Hx0 HX0]
    · isplitl [Hx0] <;> iassumption
    · isplitl [Hx1] <;> iassumption
  isplitl [Hy0 Hy1 HY0 HY1]
  · isplitl [Hy0 HY0]
    · isplitl [Hy0] <;> iassumption
    · isplitl [Hy1] <;> iassumption
  isplitl [HO]; · iexact HO
  isplitl [H2]; · iexact H2
  isplitl [H3]; · iexact H3
  isplitl [H4]; · iexact H4
  iexact H5

/-- The same backwards. -/
theorem release (c : Dev nD) (S : Buf (Elt F) ((c : Thread nD τ).loc main_v14)) (X : Buf (Elt F) ((c : Thread nD τ).loc main_v0))
    (Y : Buf (Elt F) ((c : Thread nD τ).loc main_v1)) (R : sProp 𝕄) :
    iprop((∃ A0, accP c A0) ∗ (∃ T0, tabP c T0) ∗ selP c S
        ∗ (bigSep Finset.univ (homeP c xM 0 X) ∗ bigSep Finset.univ (homeP c xM 1 X))
        ∗ (bigSep Finset.univ (homeP c yM 0 Y) ∗ bigSep Finset.univ (homeP c yM 1 Y))
        ∗ (freeP c xR cc0_scoped5 0 ∗ freeP c xR cc0_scoped5 1) ∗ (freeP c yR cc0_scoped7 0 ∗ freeP c yR cc0_scoped7 1)
        ∗ R ∗ semVal ((c : Thread nD τ), SemLoc.dma cc0_scoped2.sem) 0 ∗ semVal ((c : Thread nD τ), SemLoc.dma cc0_scoped3.sem) 0
        ∗ (∃ f, (c : Thread nD τ).loc cc1_stg0_0 ↦{fullShare} f) ∗ (∃ f, (c : Thread nD τ).loc cc1_stg1_0 ↦{fullShare} f))
      ⊢ iprop((((c : Thread nD τ).loc main_v14 ↦{fullShare} S) ∗ ((c : Thread nD τ).loc main_v0 ↦{fullShare} X) ∗ ((c : Thread nD τ).loc main_v1 ↦{fullShare} Y) ∗ R)
        ∗ Pipeline.ownSems0 osem c ∗ Pipeline.scopedRest cfg0.spec c) := by
  rw [ownSems_eq, x_eq, y_eq, acc_ex, tab_ex, selP_eq]
  iintro ⟨HA, HT, HS, HX, HY, ⟨⟨Hx0, HX0⟩, ⟨Hx1, HX1⟩⟩, ⟨⟨Hy0, HY0⟩, ⟨Hy1, HY1⟩⟩, HO, H2, H3, H4, H5⟩
  isplitl [HS HX HY HO]
  · isplitl [HS]; · iexact HS
    isplitl [HX]; · iexact HX
    isplitl [HY]; · iexact HY
    iexact HO
  isplitl [H2 H3 Hx0 Hx1 Hy0 Hy1]
  · isplitl [H2]; · iexact H2
    isplitl [H3]; · iexact H3
    isplitl [Hx0]; · iexact Hx0
    isplitl [Hx1]; · iexact Hx1
    isplitl [Hy0]; · iexact Hy0
    iexact Hy1
  iapply (entails_of_eq (scopedRest0_eq c).symm)
  isplitl [HA]; · iexact HA
  isplitl [HT]; · iexact HT
  isplitl [HX0 HX1]
  · iapply (xs_join c); isplitl [HX0] <;> iassumption
  isplitl [HY0 HY1]
  · iapply (ys_join c); isplitl [HY0] <;> iassumption
  isplitl [H4]; · iexact H4
  iexact H5

theorem enter_first (c : Dev nD) (W : sProp 𝕄) :
    iprop((((((c : Thread nD τ).loc main_v14 ↦{fullShare} S₀ m c) ∗ ((c : Thread nD τ).loc main_v0 ↦{fullShare} X₀ m c)
        ∗ ((c : Thread nD τ).loc main_v1 ↦{fullShare} Y₀ m c) ∗ ((c : Thread nD τ).loc main_v16 ↦{fullShare} O₀ m c))
        ∗ Pipeline.ownSems0 osem c) ∗ W ∗ Pipeline.scopedRest cfg0.spec c)) ⊢ Φ₀ m c 0 := by
  rw [out_eq]
  unfold Φ₀
  rw [outAt_0, outAt_0]
  iintro ⟨⟨H, Hs⟩, -, HR⟩
  iapply (gather c (S₀ m c) (X₀ m c) (Y₀ m c) iprop(rowsP c 0 (O₀ m c) ∗ rowsP c 1 (O₀ m c)))
  isplitr [HR]
  · isplitl [H] <;> iassumption
  iexact HR
theorem leave_first (c : Dev nD) : Φ₀ m c 2 ⊢
    iprop((((c : Thread nD τ).loc main_v14 ↦{fullShare} S₀ m c) ∗ ((c : Thread nD τ).loc main_v0 ↦{fullShare} X₀ m c)
        ∗ ((c : Thread nD τ).loc main_v1 ↦{fullShare} Y₀ m c) ∗ ((c : Thread nD τ).loc main_v16 ↦{fullShare} sumsAll m c))
        ∗ Pipeline.ownSems0 osem c ∗ Pipeline.scopedRest cfg0.spec c) := by
  unfold Φ₀ sumsAll
  rw [outAt_2, outAt_2, ← out_join c fun r => outG m c r]
  exact release c (S₀ m c) (X₀ m c) (Y₀ m c) iprop(rowsP c 0 (outG m c 0) ∗ rowsP c 1 (outG m c 1))

/-- The first call's record. -/
def region0 : RegionSeg (pcfgs (F := F)) adm (dats m) () defs₀ 𝒱₀ lvSet lv0 0 where
  win := launch0.win.to₀
  block_pos := launch0.block_pos
  stage_whole := launch0.stage_whole
  K := Fin 6
  osem := osem
  ho := ownSemFacts
  hbody c := (body_first m c).loose
  hwaits := Pipeline.hwaits_of_owed_zero _ _ _ _ lvSet lv0 0 fun _ _ => rfl
  pre c := iprop(StableHlo.held (c : Thread nD τ) (Pipeline.ucRefs τ sig) (V3 m c) ∗ restP c)
  post c := iprop(StableHlo.held (c : Thread nD τ) (Pipeline.ucRefs τ sig) (V4 m (outs m) c) ∗ restP c)
  X c := iprop(StableHlo.held (c : Thread nD τ) firstRefs (V3 m c) ∗ Pipeline.ownSems0 osem c)
  Y c := StableHlo.held (c : Thread nD τ) firstRefs (V4 m (outs m) c)
  Z c := StableHlo.held (c : Thread nD τ) (Pipeline.ucRefs τ sig \ firstRefs) (V3 m c)
  hentry c := by
    rw [StableHlo.held_sub_split _ firstRefs_sub (V3 m c)]
    iintro ⟨⟨⟨Hf, Hr⟩, HO⟩, Hos, -⟩
    imodintro
    isplitr
    · unfold Dat.arrays; rw [show (Finset.univ : Finset (Fin ((Pipeline.pin (pcfgs (F := F)) adm 0).W))) = ∅ from rfl, BI.bigSep_empty]; iempintro
    isplitr
    · unfold Pipeline.prefHeld; rw [show (Finset.univ : Finset (Fin 0)) = ∅ from rfl, BI.bigSep_empty]; iempintro
    isplitl [HO]
    · unfold Dat.owesAt Pipeline.owesWithin
      icases HO with ⟨%W, HO⟩; iexists W; isplitr; · ipureintro; exact fun _ _ => Or.inl trivial
      iexact HO
    isplitl [Hf Hos]
    · isplitl [Hf] <;> iassumption
    iexact Hr
  hin c := by
    rw [show (dats m 0 c).Φ 0 = Φ₀ m c 0 from rfl, held_first]
    exact enter_first m c _
  hout c := by
    rw [show (dats m 0 c).Φ (Fin.last _) = Φ₀ m c 2 from rfl, held_first, V4_14, V4_0, V4_1, V4_16]
    exact leave_first m c
  hexit c := by
    rw [StableHlo.held_sub_split _ firstRefs_sub (V4 m (outs m) c), held_rest]
    iintro ⟨-, HO, HY, HZ⟩
    imodintro
    isplitr [HO]
    · isplitl [HY] <;> iassumption
    · unfold Dat.owesAt Pipeline.owesWithin
      icases HO with ⟨%W, -, HO⟩; iexists W; iexact HO

/-! ## The second call's record -/

abbrev secondRefs : Finset (DevRef τ sig) := Pipeline.arrRefs (τ := τ) spec1
theorem secondRefs_sub : secondRefs ⊆ Pipeline.ucRefs τ sig := Pipeline.arrRefs_sub_ucRefs spec1 launch1.win.arr_unscoped

theorem entry_1 (c : Dev nD) (w : Fin cfg1.W) : (dat1 m c).arrAt w 0 = V4 m (outs m) c (Proc.devRef .tc (Pipeline.arrRef spec1 w)) := by
  match w with
  | ⟨0, _⟩ => exact (V4_16 m c).symm
  | ⟨1, _⟩ => exact (V4_of m (outs m) c main_v17 (by decide)).symm
theorem exit_1 (c : Dev nD) (w : Fin cfg1.W) : (dat1 m c).arrAt w cfg1.N = V5 m (outs m) c (Proc.devRef .tc (Pipeline.arrRef spec1 w)) := by
  match w with
  | ⟨0, _⟩ => exact ((dat1 (F := F) m c).arrAt_in 0 rfl _).trans ((V5_of m (outs m) c main_v16 (by decide)).trans (V4_16 m c)).symm
  | ⟨1, _⟩ =>
    refine Eq.trans ?_ (show outs m 5 main_v17 c = _ from ?_)
    · exact (outs_17 m c 5).symm
    · show _ = V5 m (outs m) c main_v17
      unfold V5; rw [Function.update_self]

/-- Outside its arrays the second call changes nothing. -/
theorem held_rest' (c : Dev nD) : (StableHlo.held (c : Thread nD τ) (Pipeline.ucRefs τ sig \ secondRefs) (V4 m (outs m) c) : sProp 𝕄)
    = StableHlo.held (c : Thread nD τ) (Pipeline.ucRefs τ sig \ secondRefs) (V5 m (outs m) c) := by
  refine StableHlo.held_congr _ fun b hb => ?_
  have hn := (Finset.mem_sdiff.mp hb).2
  unfold V5
  rw [Function.update_of_ne]
  rintro rfl
  exact hn (Finset.mem_map.mpr ⟨main_v17, Finset.mem_image.mpr ⟨1, Finset.mem_univ _, rfl⟩, rfl⟩)

theorem arrays_in (c : Dev nD) : ((dats m 1 c).arrays ((dats m 1 c).arrAt · 0) : sProp 𝕄) = StableHlo.held (c : Thread nD τ) secondRefs (V4 m (outs m) c) :=
  Pipeline.arrays_held (pcfgs (F := F)) adm (dats m) 1 launch1.toP c (fun w => (dat1 m c).share_full (fun _ => rfl) w) _ _ (entry_1 m c)
theorem arrays_out (c : Dev nD) : ((dats m 1 c).arrays ((dats m 1 c).arrAt · (Pipeline.pin (pcfgs (F := F)) adm 1).N) : sProp 𝕄)
    = StableHlo.held (c : Thread nD τ) secondRefs (V5 m (outs m) c) :=
  Pipeline.arrays_held (pcfgs (F := F)) adm (dats m) 1 launch1.toP c (fun w => (dat1 m c).share_full (fun _ => rfl) w) _ _ (exit_1 m c)

def region1 : RegionSeg (pcfgs (F := F)) adm (dats m) () defs₀ 𝒱₀ lvSet lv0 1 where
  win := launch1.win.to₀
  block_pos := launch1.block_pos
  stage_whole := launch1.stage_whole
  K := PEmpty
  osem k := k.elim
  ho := Pipeline.OwnSemFacts.none _
  hbody c := (body_second m c).loose
  hwaits := Pipeline.hwaits_of_owed_zero _ _ _ _ lvSet lv0 1 fun _ _ => rfl
  pre c := iprop(StableHlo.held (c : Thread nD τ) (Pipeline.ucRefs τ sig) (V4 m (outs m) c) ∗ restP c)
  post c := iprop(StableHlo.held (c : Thread nD τ) (Pipeline.ucRefs τ sig) (V5 m (outs m) c) ∗ restP c)
  X _ := BI.emp
  Y _ := BI.emp
  Z c := StableHlo.held (c : Thread nD τ) (Pipeline.ucRefs τ sig \ secondRefs) (V4 m (outs m) c)
  hentry c := by
    rw [StableHlo.held_sub_split _ secondRefs_sub (V4 m (outs m) c), ← arrays_in]
    iintro ⟨⟨⟨Ha, Hr⟩, HO⟩, -, -⟩
    imodintro
    isplitl [Ha]; · iexact Ha
    isplitr
    · unfold Pipeline.prefHeld; rw [show (Finset.univ : Finset (Fin 0)) = ∅ from rfl, BI.bigSep_empty]; iempintro
    isplitl [HO]
    · unfold Dat.owesAt Pipeline.owesWithin
      icases HO with ⟨%W, HO⟩; iexists W; isplitr; · ipureintro; exact fun _ _ => Or.inl trivial
      iexact HO
    isplitr; · iempintro
    iexact Hr
  hin c := by
    rw [show (dats m 1 c).Φ 0 = Pipeline.scopedRest spec1 c from rfl]
    iintro ⟨-, -, Hr⟩; iexact Hr
  hout c := by
    rw [show (dats m 1 c).Φ (Fin.last _) = Pipeline.scopedRest spec1 c from rfl, Pipeline.ownSems0_none]
    iintro Hr
    isplitr; · iempintro
    isplitr; · iempintro
    iexact Hr
  hexit c := by
    rw [StableHlo.held_sub_split _ secondRefs_sub (V5 m (outs m) c), held_rest', ← arrays_out]
    iintro ⟨Ha, HO, -, HZ⟩
    imodintro
    isplitr [HO]
    · isplitl [Ha] <;> iassumption
    · unfold Dat.owesAt Pipeline.owesWithin
      icases HO with ⟨%W, -, HO⟩; iexists W; iexact HO

/-! ## The whole program -/

/-- The loss every run leaves in the result. -/
def lossEnd (c : Dev nD) : Buf (Elt F) ((c : Thread nD τ).loc main_v18) := V6 m (outs m) c main_v18

set_option backward.isDefEq.respectTransparency.types false in
/-- Every run terminates with the loss in the result, the arguments as launched and every semaphore at zero. -/
theorem run_main (ρ : Dev nD → PrngReg) :
    θ_run defs (onTc (τ := τ) (main (F := F))) ⟨m, fun _ => 0, ρ⟩ (fun r => (∀ c : Dev nD,
      r.2.mem ((c.tc : Thread nD τ).loc main_v18) = lossEnd m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine Pipeline.θ_run_regions_kit_dev_sems (pcfgs (F := F)) adm (dats m) () cellOf_inj EP defs₀ 𝒱₀ lvSet lv0 m ρ main
    (segs m (outs m) 𝒱₀ lvSet lv0 (fun _ => restP) () (dats m) (region0 m) (region1 m))
    (fun c Q => by
      rewrite [main_chain c, Seg.run_eq_chain,
        show (segs m (outs m) 𝒱₀ lvSet lv0 (fun _ => restP) () (dats m) (region0 m) (region1 m) c).map Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ restP c))
    (Tₙ := fun c => StableHlo.held (c : Thread nD τ) (Pipeline.ucRefs τ sig) (V6 m (outs m) c))
    (hch := fun c => ⟨.rfl, .rfl, .rfl, .rfl, .rfl, .rfl, .rfl⟩)
    (hinit := ?_) (QY := fun c s => s.mem ((c.tc : Thread nD τ).loc main_v18) = lossEnd m c
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h hz => ⟨h, funext fun g => hz g (.inr (regions_no_unscoped g.2))⟩)
  · refine Pipeline.initEach lvSet lv0 fun c => ?_
    rw [Pipeline.unscopedBufs_held (Ix := Unit) (Name := ℕ) (U := UU nD τ) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V6 m (outs m) c) s') $$ [Hh HSI]
    · isplitl [Hh] <;> iassumption
    icases Hr with ⟨%h, HSI⟩
    imodintro
    isplitr
    · ipureintro
      have hm : ∀ r : Ref sig .tc, (Proc.devRef (τ := τ) .tc r) ∈ Pipeline.ucRefs τ sig → s'.mem.mem ((c.tc : Thread nD τ).loc r) = V6 m (outs m) c r :=
        fun r hr => h (Proc.devRef .tc r) hr
      exact ⟨hm main_v18 (Finset.mem_filter.mpr ⟨StableHlo.devRef_mem_tcRefs main_v18, by decide⟩),
        (hm main_arg0 (Finset.mem_filter.mpr ⟨StableHlo.devRef_mem_tcRefs main_arg0, by decide⟩)).trans (V6_main_arg0 m (outs m) c),
        (hm main_arg1 (Finset.mem_filter.mpr ⟨StableHlo.devRef_mem_tcRefs main_arg1, by decide⟩)).trans (V6_main_arg1 m (outs m) c)⟩
    · iexact HSI

end Cert.Proof.Hist

end
end
-- ==== Proof.Frame.lean ====
/-
  The frame of the program as printed, from the run of its idealized reading: the two programs differ only in the
  named constants, and read at the bits a named constant is the bits it was printed with.
-/
module

public import proofs.«01_k».proof.Proof.Run
public import proofs.«01_k».proof.Defs
public import proofs.«01_k».proof.Proof.Gen.Kernel

@[expose] public section

noncomputable section

namespace Cert.Proof.Hist

open Idealize.ShloMosaic
open Idealize.SL Idealize.SL.Sem

/-- At the bits a named constant is the printed one. -/
def namedBits : Named Bits where
  named _ _ bits := FloatOps.ofBits bits

attribute [local instance] namedBits

theorem part11_same : Cert.Kernel.k0_part11 (F := Bits) = Cert.KernelIdeal.k0_part11 (F := Bits) := rfl
theorem part10_same : Cert.Kernel.k0_part10 (F := Bits) = Cert.KernelIdeal.k0_part10 (F := Bits) := rfl
theorem part9_same : Cert.Kernel.k0_part9 (F := Bits) = Cert.KernelIdeal.k0_part9 (F := Bits) := rfl
theorem part8_same : Cert.Kernel.k0_part8 (F := Bits) = Cert.KernelIdeal.k0_part8 (F := Bits) := rfl
theorem part7_same : Cert.Kernel.k0_part7 (F := Bits) = Cert.KernelIdeal.k0_part7 (F := Bits) := rfl
theorem part6_same : Cert.Kernel.k0_part6 (F := Bits) = Cert.KernelIdeal.k0_part6 (F := Bits) := rfl
theorem part5_same : Cert.Kernel.k0_part5 (F := Bits) = Cert.KernelIdeal.k0_part5 (F := Bits) := rfl
theorem part4_same : Cert.Kernel.k0_part4 (F := Bits) = Cert.KernelIdeal.k0_part4 (F := Bits) := rfl
theorem part3_same : Cert.Kernel.k0_part3 (F := Bits) = Cert.KernelIdeal.k0_part3 (F := Bits) := rfl
theorem part2_same : Cert.Kernel.k0_part2 (F := Bits) = Cert.KernelIdeal.k0_part2 (F := Bits) := rfl
theorem part1_same : Cert.Kernel.k0_part1 (F := Bits) = Cert.KernelIdeal.k0_part1 (F := Bits) := rfl
theorem cc0_same : Cert.Kernel.cc0__ (F := Bits) = Cert.KernelIdeal.cc0__ (F := Bits) := rfl
theorem cc1_same : Cert.Kernel.cc1__loss_kernel (F := Bits) = Cert.KernelIdeal.cc1__loss_kernel (F := Bits) := rfl

theorem main_same : Cert.Kernel.main (F := Bits) = Cert.KernelIdeal.main (F := Bits) := rfl
theorem defs₀_same : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | 1, (t, s) => rfl
theorem defs_same : Cert.Kernel.defs (F := Bits) = Cert.KernelIdeal.defs (F := Bits) := by
  unfold Cert.Kernel.defs Cert.KernelIdeal.defs
  exact congrArg (Pipeline.defs Cert.KernelIdeal.pcfgs) defs₀_same

/-- The printed program runs from any memory, leaves its arguments as launched and every semaphore at zero. -/
theorem frame_printed (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_same, main_same]
  exact (θ_run _ _ _).mono (fun r h => ⟨fun c => ⟨(h.1 c).2.1, (h.1 c).2.2⟩, h.2⟩) (run_main (F := Bits) m g)

end Cert.Proof.Hist

end
end
-- ==== Proof.Frames.lean ====
/-
  The frames of the two idealized programs, and that every named constant is sanctioned.
-/
module

public import proofs.«01_k».proof.Proof.Frame
public import proofs.«01_k».proof.Proof.Gen.ReferenceIdeal.Run

@[expose] public section

noncomputable section

namespace Cert.Proof.Hist

open Idealize.ShloMosaic
open Idealize.SL Idealize.SL.Sem

theorem frame_kernel : Cert.quiescent_Kernel := fun m g _ => frame_printed m g

theorem frame_ideal : Cert.quiescent_KernelIdeal := fun m g _ =>
  (θ_run _ _ _).mono (fun _ h => ⟨fun c => ⟨(h.1 c).2.1, (h.1 c).2.2⟩, h.2⟩) (run_main (F := Ideal) m g)

/-- The reference is host operations only: no semaphore is declared. -/
theorem frame_reference : Cert.quiescent_ReferenceIdeal := fun m g _ =>
  (θ_run _ _ _).mono (fun r h => ⟨fun c => ⟨(h c).2.1, (h c).2.2⟩, sem_eq_zero_of_no_sems rfl r.2⟩) (Cert.ReferenceIdeal.Value.run (F := Ideal) m g)

theorem names : Cert.preserves_Kernel_KernelIdeal := by
  unfold Cert.preserves_Kernel_KernelIdeal
  exact ⟨IdealRules.named_const.statement _ _ _ _ _ rfl, IdealRules.named_const.statement _ _ _ _ _ rfl, IdealRules.named_const.statement _ _ _ _ _ rfl,
    IdealRules.named_const.statement _ _ _ _ _ rfl, IdealRules.named_const.statement _ _ _ _ _ rfl, IdealRules.named_const.statement _ _ _ _ _ rfl,
    IdealRules.named_const.statement _ _ _ _ _ rfl, IdealRules.named_const.statement _ _ _ _ _ rfl, IdealRules.named_const.statement _ _ _ _ _ rfl,
    IdealRules.named_const.statement _ _ _ _ _ rfl, IdealRules.named_const.statement _ _ _ _ _ rfl⟩

end Cert.Proof.Hist

end
end
-- ==== Proof.Consts.lean ====
/-
  The numbers both programs spell, as extended reals: the literals by their bit patterns, the named ones by the table.
-/
module

public import proofs.«01_k».proof.KernelIdeal
public import Idealize.ShloMosaic.PureOps.Ideal

@[expose] public section

noncomputable section

namespace Cert.Proof.Hist

open Idealize.ShloMosaic Cert.KernelIdeal

theorem lit_108 : Ideal.ofBits .f32 1121452032#32 = ((108 : ℝ) : EReal) := by
  simp [Ideal.ofBits, Ideal.ieee, -EReal.coe_mul]; norm_num
theorem lit_base : Ideal.ofBits .f32 0x44E2015B#32 = ((14811483 / 8192 : ℝ) : EReal) := by
  simp [Ideal.ofBits, Ideal.ieee, -EReal.coe_mul]; norm_num
theorem lit_75 : Ideal.ofBits .f32 0x42960000#32 = ((75 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_2 : Ideal.ofBits .f32 0x40000000#32 = ((2 : ℝ) : EReal) := by
  simp [Ideal.ofBits, Ideal.ieee, -EReal.coe_mul]; norm_num
theorem lit_150 : Ideal.ofBits .f32 0x43160000#32 = ((150 : ℝ) : EReal) := by
  simp [Ideal.ofBits, Ideal.ieee, -EReal.coe_mul]; norm_num
theorem lit_1 : Ideal.ofBits .f32 0x3F800000#32 = ((1 : ℝ) : EReal) := by
  simp [Ideal.ofBits, Ideal.ieee, -EReal.coe_mul]; norm_num
theorem lit_0 : Ideal.ofBits .f32 0x00000000#32 = ((0 : ℝ) : EReal) := by
  simp [Ideal.ofBits, Ideal.ieee, -EReal.coe_mul]
theorem lit_10 : Ideal.ofBits .f32 0x41200000#32 = ((10 : ℝ) : EReal) := by
  simp [Ideal.ofBits, Ideal.ieee, -EReal.coe_mul]; norm_num
theorem lit_16 : Ideal.ofBits .f32 0x41800000#32 = ((16 : ℝ) : EReal) := by
  simp [Ideal.ofBits, Ideal.ieee, -EReal.coe_mul]; norm_num
theorem lit_weight : Ideal.ofBits .f32 0x38D1B717#32 = ((160 * (2748779 / 4398046511104) : ℝ) : EReal) := by
  simp [Ideal.ofBits, Ideal.ieee, -EReal.coe_mul]; norm_num

/-- The base of the edges' geometric progression. -/
def Q : ℝ := 14811483 / 8192
theorem Q_pos : 0 < Q := by unfold Q; norm_num

theorem nm_k2 : Named.named (F := Ideal) κ "k2" (φ := .f32) 1129867133#32 = ((150 * (Real.log 2)⁻¹ : ℝ) : EReal) := rfl
theorem nm_cap : Named.named (F := Ideal) κ "no_cap" (φ := .bf16) 21376#16 = (⊤ : EReal) := rfl
theorem nm_q : Named.named (F := Ideal) κ "q" (φ := .bf16) 17634#16 = ((Q : ℝ) : EReal) := rfl
theorem nm_q_inv : Named.named (F := Ideal) κ "q_inv" (φ := .bf16) 14865#16 = ((Q⁻¹ : ℝ) : EReal) := rfl
theorem nm_scale : Named.named (F := Ideal) κ "scale" (φ := .f32) 0x3527C5AC#32 = ((2748779 / 4398046511104 : ℝ) : EReal) := rfl

/-- The scale of pair `k`: `2^108 / Q^(4k+1)`. -/
def geo (k : ℕ) : ℝ := 2 ^ 108 * (Q ^ (4 * k + 1))⁻¹

theorem nm_geo0 : Named.named (F := Ideal) κ "geo0" (φ := .bf16) 28689#16 = ((geo 0 : ℝ) : EReal) := by
  rw [show geo 0 = 324518553658426726783156020576256 * (14811483 / 8192)⁻¹ by unfold geo Q; norm_num]; rfl
theorem nm_geo1 : Named.named (F := Ideal) κ "geo1" (φ := .bf16) 23151#16 = ((geo 1 : ℝ) : EReal) := by
  rw [show Named.named (F := Ideal) κ "geo1" (φ := .bf16) 23151#16 = (κ "geo1").getD 0 from rfl, κ]
  simp only [Option.getD_some, EReal.coe_eq_coe_iff]
  unfold geo Q; norm_num
theorem nm_geo2 : Named.named (F := Ideal) κ "geo2" (φ := .bf16) 17604#16 = ((geo 2 : ℝ) : EReal) := by
  rw [show Named.named (F := Ideal) κ "geo2" (φ := .bf16) 17604#16 = (κ "geo2").getD 0 from rfl, κ]
  simp only [Option.getD_some, EReal.coe_eq_coe_iff]
  unfold geo Q; norm_num
theorem nm_geo3 : Named.named (F := Ideal) κ "geo3" (φ := .bf16) 12066#16 = ((geo 3 : ℝ) : EReal) := by
  rw [show Named.named (F := Ideal) κ "geo3" (φ := .bf16) 12066#16 = (κ "geo3").getD 0 from rfl, κ]
  simp only [Option.getD_some, EReal.coe_eq_coe_iff]
  unfold geo Q; norm_num
theorem nm_geo4 : Named.named (F := Ideal) κ "geo4" (φ := .bf16) 6533#16 = ((geo 4 : ℝ) : EReal) := by
  rw [show Named.named (F := Ideal) κ "geo4" (φ := .bf16) 6533#16 = (κ "geo4").getD 0 from rfl, κ]
  simp only [Option.getD_some, EReal.coe_eq_coe_iff]
  unfold geo Q; norm_num
/-- The constant of the last edge. -/
def last : ℝ := Q ^ 20 * (2 ^ 108)⁻¹
theorem nm_last : Named.named (F := Ideal) κ "edge10" (φ := .bf16) 30121#16 = ((last : ℝ) : EReal) := by
  rw [show Named.named (F := Ideal) κ "edge10" (φ := .bf16) 30121#16 = (κ "edge10").getD 0 from rfl, κ]
  simp only [Option.getD_some, EReal.coe_eq_coe_iff]
  unfold last Q; norm_num

end Cert.Proof.Hist

end
-- ==== Proof.Edges.lean ====
/-
  One element's share of one edge, in the kernel's formulas and in the reference's.

  The kernel computes every edge from one power of two per element; the reference computes a sigmoid per edge. On the
  real line both are `1 / (1 + Q^(2i) · exp (-150 x))`. At `+∞` the kernel's quotient is `∞ · 0 = 0` where the reference's
  sigmoid is `1`, for every edge alike; only differences of neighbouring edges are ever used, and those agree.
-/
module

public import proofs.«01_k».proof.Proof.Consts

@[expose] public section

noncomputable section

namespace Cert.Proof.Hist

open Idealize.ShloMosaic

/-- An element's share of edge `i`. -/
def edge (i : ℕ) : EReal → ℝ
  | ⊥ => 0
  | ⊤ => 0
  | (r : ℝ) => 1 / (1 + Q ^ (2 * i) * Real.exp (-(150 * r)))

theorem edge_bot (i : ℕ) : edge i ⊥ = 0 := rfl
theorem edge_top (i : ℕ) : edge i ⊤ = 0 := rfl
theorem edge_coe (i : ℕ) (r : ℝ) : edge i r = 1 / (1 + Q ^ (2 * i) * Real.exp (-(150 * r))) := rfl

theorem div_coe (a b : ℝ) (hb : b ≠ 0) : Ideal.div (a : EReal) b = ((a / b : ℝ) : EReal) := by
  unfold Ideal.div
  rw [if_neg (by simpa using hb), ← EReal.coe_inv, ← EReal.coe_mul, div_eq_mul_inv]

/-! ## The kernel's formulas -/

/-- The power of two an element is turned into. -/
def pw (x : EReal) : EReal := Ideal.exp2 (((150 * (Real.log 2)⁻¹ : ℝ) : EReal) * x - ((108 : ℝ) : EReal))

theorem pw_bot : pw ⊥ = 0 := by
  unfold pw
  have h : (0 : ℝ) < 150 * (Real.log 2)⁻¹ := by have := Real.log_pos one_lt_two; positivity
  rw [EReal.coe_mul_bot_of_pos h, EReal.bot_sub]; rfl
theorem pw_top : pw ⊤ = ⊤ := by
  unfold pw
  have h : (0 : ℝ) < 150 * (Real.log 2)⁻¹ := by have := Real.log_pos one_lt_two; positivity
  rw [EReal.coe_mul_top_of_pos h, EReal.top_sub_coe]; rfl
theorem pw_coe (r : ℝ) : pw r = ((Real.exp (150 * r) * (2 ^ 108)⁻¹ : ℝ) : EReal) := by
  unfold pw
  rw [← EReal.coe_mul, ← EReal.coe_sub, Ideal.exp2_coe, EReal.coe_eq_coe_iff]
  show (2 : ℝ) ^ (150 * (Real.log 2)⁻¹ * r - 108) = _
  have hl : Real.log 2 ≠ 0 := (Real.log_pos one_lt_two).ne'
  rw [Real.rpow_sub two_pos, Real.rpow_def_of_pos two_pos, div_eq_mul_inv]
  congr 1
  · congr 1; field_simp
  · norm_num

/-- The two edges of a pair from their common power `u`. -/
def lower (u : EReal) : EReal := Ideal.div (u * (u + (Q : EReal))) ((u + ((Q⁻¹ : ℝ) : EReal)) * (u + (Q : EReal)))
def upper (u : EReal) : EReal := Ideal.div (u * (u + ((Q⁻¹ : ℝ) : EReal))) ((u + ((Q⁻¹ : ℝ) : EReal)) * (u + (Q : EReal)))

theorem geo_pos (k : ℕ) : 0 < geo k := by unfold geo; have := Q_pos; positivity
theorem last_pos : 0 < last := by unfold last; have := Q_pos; positivity
theorem Qinv_pos : 0 < Q⁻¹ := inv_pos.2 Q_pos

theorem div_top (x : EReal) : Ideal.div x ⊤ = 0 := by
  unfold Ideal.div; rw [if_neg (by simp), EReal.inv_top, mul_zero]
theorem zero_div (b : ℝ) (hb : b ≠ 0) : Ideal.div 0 (b : EReal) = 0 := by
  have := div_coe 0 b hb; simpa using this

theorem lower_edge (k : ℕ) (x : EReal) : lower (pw x * (geo k : EReal)) = ((edge (2 * k) x : ℝ) : EReal) := by
  have hq := Q_pos; have hi := Qinv_pos; have hg := geo_pos k
  induction x with
  | bot =>
    rw [pw_bot, zero_mul, lower, zero_add, zero_add, zero_mul, ← EReal.coe_mul, zero_div _ (mul_pos hi hq).ne', edge_bot]; rfl
  | top =>
    rw [pw_top, EReal.top_mul_coe_of_pos hg, lower, EReal.top_add_coe, EReal.top_add_coe, EReal.top_mul_top, div_top, edge_top]; rfl
  | coe r =>
    rw [pw_coe, ← EReal.coe_mul, lower, edge_coe]
    set u : ℝ := Real.exp (150 * r) * (2 ^ 108)⁻¹ * geo k with hu
    have hu0 : 0 < u := by rw [hu]; have := Real.exp_pos (150 * r); positivity
    rw [← EReal.coe_add, ← EReal.coe_add, ← EReal.coe_mul, ← EReal.coe_mul, div_coe _ _ (by positivity), EReal.coe_eq_coe_iff]
    have e1 : u * (u + Q) / ((u + Q⁻¹) * (u + Q)) = u / (u + Q⁻¹) := by
      field_simp
    have hexp : Real.exp (-(150 * r)) = (Real.exp (150 * r))⁻¹ := Real.exp_neg _
    have e2 : Q ^ (2 * (2 * k)) * Real.exp (-(150 * r)) = Q⁻¹ / u := by
      rw [hu, hexp, geo, show 2 * (2 * k) = 4 * k by ring, pow_succ Q (4 * k)]
      have := Real.exp_pos (150 * r)
      field_simp
    rw [e1, e2]
    field_simp

theorem upper_edge (k : ℕ) (x : EReal) : upper (pw x * (geo k : EReal)) = ((edge (2 * k + 1) x : ℝ) : EReal) := by
  have hq := Q_pos; have hi := Qinv_pos; have hg := geo_pos k
  induction x with
  | bot =>
    rw [pw_bot, zero_mul, upper, zero_add, zero_add, zero_mul, ← EReal.coe_mul, zero_div _ (mul_pos hi hq).ne', edge_bot]; rfl
  | top =>
    rw [pw_top, EReal.top_mul_coe_of_pos hg, upper, EReal.top_add_coe, EReal.top_add_coe, EReal.top_mul_top, div_top, edge_top]; rfl
  | coe r =>
    rw [pw_coe, ← EReal.coe_mul, upper, edge_coe]
    set u : ℝ := Real.exp (150 * r) * (2 ^ 108)⁻¹ * geo k with hu
    have hu0 : 0 < u := by rw [hu]; have := Real.exp_pos (150 * r); positivity
    rw [← EReal.coe_add, ← EReal.coe_add, ← EReal.coe_mul, ← EReal.coe_mul, div_coe _ _ (by positivity), EReal.coe_eq_coe_iff]
    have e1 : u * (u + Q⁻¹) / ((u + Q⁻¹) * (u + Q)) = u / (u + Q) := by
      have : u + Q⁻¹ ≠ 0 := by positivity
      rw [mul_comm u, mul_div_mul_left _ _ this]
    have hexp : Real.exp (-(150 * r)) = (Real.exp (150 * r))⁻¹ := Real.exp_neg _
    have e2 : Q ^ (2 * (2 * k + 1)) * Real.exp (-(150 * r)) = Q / u := by
      rw [hu, hexp, geo, show 2 * (2 * k + 1) = 4 * k + 1 + 1 by ring, pow_succ Q (4 * k + 1)]
      have := Real.exp_pos (150 * r)
      field_simp
    rw [e1, e2]
    field_simp

theorem last_edge (x : EReal) : Ideal.div (pw x) (pw x + (last : EReal)) = ((edge 10 x : ℝ) : EReal) := by
  have hq := Q_pos; have hl := last_pos
  induction x with
  | bot => rw [pw_bot, zero_add, zero_div _ hl.ne', edge_bot]; rfl
  | top => rw [pw_top, EReal.top_add_coe, div_top, edge_top]; rfl
  | coe r =>
    rw [pw_coe, edge_coe]
    set u : ℝ := Real.exp (150 * r) * (2 ^ 108)⁻¹ with hu
    have hu0 : 0 < u := by rw [hu]; have := Real.exp_pos (150 * r); positivity
    rw [← EReal.coe_add, div_coe _ _ (by positivity), EReal.coe_eq_coe_iff]
    have hexp : Real.exp (-(150 * r)) = (Real.exp (150 * r))⁻¹ := Real.exp_neg _
    have e2 : Q ^ (2 * 10) * Real.exp (-(150 * r)) = last / u := by
      rw [hu, hexp, last]
      have := Real.exp_pos (150 * r)
      field_simp
    rw [e2]
    field_simp

/-! ## The reference's formula -/

/-- Its sigmoid, as it spells it, and the same as a real. -/
def sg (t : EReal) : EReal := Ideal.div 1 (1 + Ideal.exp (-t))
def sgR : EReal → ℝ
  | ⊥ => 0
  | ⊤ => 1
  | (r : ℝ) => 1 / (1 + Real.exp (-r))

theorem sg_eq (t : EReal) : sg t = ((sgR t : ℝ) : EReal) := by
  induction t with
  | bot => rw [sg, EReal.neg_bot, Ideal.exp_top, show (1 : EReal) + ⊤ = ⊤ from EReal.coe_add_top 1, div_top]; rfl
  | top =>
    rw [sg, EReal.neg_top, Ideal.exp_bot, add_zero]
    show Ideal.div ((1 : ℝ) : EReal) ((1 : ℝ) : EReal) = _
    rw [div_coe _ _ one_ne_zero, div_one]; rfl
  | coe r =>
    rw [sg, ← EReal.coe_neg, Ideal.exp_coe]
    have := Real.exp_pos (-r)
    show Ideal.div ((1 : ℝ) : EReal) (((1 : ℝ) : EReal) + _) = _
    rw [← EReal.coe_add, div_coe _ _ (by positivity)]; rfl

/-- The share of one bin: the difference of its two sigmoids is the difference of its two edges. -/
theorem bin_eq (x : EReal) (c h : ℝ) (j : ℕ) (h1 : 150 * (c - h) = ((2 * j : ℕ) : ℝ) * Real.log Q)
    (h2 : 150 * (c + h) = ((2 * (j + 1) : ℕ) : ℝ) * Real.log Q) :
    sg (((150 : ℝ) : EReal) * (x - (c : EReal) + (h : EReal))) - sg (((150 : ℝ) : EReal) * (x - (c : EReal) - (h : EReal)))
      = ((edge j x - edge (j + 1) x : ℝ) : EReal) := by
  have h150 : (0 : ℝ) < 150 := by norm_num
  rw [sg_eq, sg_eq, ← EReal.coe_sub, EReal.coe_eq_coe_iff]
  induction x with
  | bot =>
    rw [EReal.bot_sub, EReal.bot_add, EReal.bot_sub, EReal.coe_mul_bot_of_pos h150, edge_bot, edge_bot]; rfl
  | top =>
    rw [EReal.top_sub_coe, EReal.top_add_coe, EReal.top_sub_coe, EReal.coe_mul_top_of_pos h150, edge_top, edge_top]
    show (1 : ℝ) - 1 = 0 - 0; norm_num
  | coe r =>
    rw [← EReal.coe_sub, ← EReal.coe_add, ← EReal.coe_sub, ← EReal.coe_mul, ← EReal.coe_mul, edge_coe, edge_coe]
    show 1 / (1 + Real.exp (-(150 * (r - c + h)))) - 1 / (1 + Real.exp (-(150 * (r - c - h)))) = _
    have p (n : ℕ) : Q ^ n = Real.exp ((n : ℝ) * Real.log Q) := by
      rw [mul_comm, Real.exp_mul, Real.exp_log Q_pos, Real.rpow_natCast]
    rw [p, p, ← Real.exp_add, ← Real.exp_add, ← h1, ← h2]
    congr 4 <;> congr 1 <;> ring

end Cert.Proof.Hist

end
-- ==== Proof.Block.lean ====
/-
  The values of one trip, read at an index: the block it works on, and the two shapes of product it takes with the
  selector table.
-/
module

public import proofs.«01_k».proof.Proof.Body
public import proofs.«01_k».proof.Proof.Edges
public import Idealize.ShloMosaic.Lib.Pointwise
public import Idealize.ShloMosaic.Lib.Pipeline.ValueKit

@[expose] public section

set_option maxRecDepth 16384

noncomputable section

namespace Cert.Proof.Hist

open Cert.KernelIdeal Cert.KernelIdeal.Gen
open Idealize.ShloMosaic
open Idealize.ShloMosaic.TcCoe

theorem slot_load (B : Slots) (off : Fin 4 → ℕ) (s : Fin 2) (e : off = slotOff s) (inb : ∀ a, off a + S1x24x32x512.size a ≤ S2x24x32x512.size a)
    (h : S1x24x32x512.ShapeCasts S24x32x512) (f : B.view.ty.Contents (Elt Ideal)) :
    shapeCast S24x32x512 (B.view.readAt (Elt Ideal) (Rect.unit (s := S2x24x32x512) off S1x24x32x512.size inb).toLoadRect f) h
      = (slot B s).view.read (Elt Ideal) f := by
  subst e; rfl

section
variable (c : Dev nD) (i : grid0.Coords)
  (X : Buf (Elt Ideal) (xM.view.loc (c : Thread nD τ))) (Y : Buf (Elt Ideal) (yM.view.loc (c : Thread nD τ)))
  (T : Buf (Elt Ideal) (tabM.view.loc (c : Thread nD τ))) (k : Fin k0_t1_loop.trips)

/-- What a trip loads from the ring of the first image: its block. -/
theorem xblk : tripRun.sl.v168_r1 c i X k (chk2_ok k) = blkVal c xM (rowOf i) X (bk k) :=
  (slot_load xR _ (sl k) (off16_eq (lt16 k)) _ _ _).trans (View.read_writes_whole (slot xR (sl k)).view _ _)
theorem yblk : tripRun.sl.v171_r1 c i Y k (chk3_ok k) = blkVal c yM (rowOf i) Y (bk k) :=
  (slot_load yR _ (sl k) (off17_eq (lt16 k)) _ _ _).trans (View.read_writes_whole (slot yR (sl k)).view _ _)

end

/-- The row and the line of an image that row `a`, line `h` of a block is. -/
abbrev rowIx (r : Fin 2) (a : Fin 24) : Fin 48 := ⟨24 * r.val + a.val, by have := r.isLt; have := a.isLt; omega⟩
abbrev lineIx (b : Fin 16) (h : Fin 32) : Fin 512 := ⟨32 * b.val + h.val, by have := b.isLt; have := h.isLt; omega⟩

theorem blk_apply (c : Dev nD) (r : Fin 2) (b : Fin 16) (X : Buf (Elt Ideal) (xM.view.loc (c : Thread nD τ))) (a : Fin 24) (h : Fin 32) (w : Fin 512) :
    blkVal c xM r X b (ix3 a h w) = X (ix3 (rowIx r a) (lineIx b h) w) := by
  refine congrArg X (funext fun a' => Fin.ext ?_)
  fin_cases a'
  · show 24 * r.val + 1 * a.val = _; rw [one_mul]; rfl
  · show 32 * b.val + 1 * h.val = _; rw [one_mul]; rfl
  · show 0 + 1 * w.val = _; rw [one_mul, zero_add]; rfl
theorem blk_apply' (c : Dev nD) (r : Fin 2) (b : Fin 16) (X : Buf (Elt Ideal) (yM.view.loc (c : Thread nD τ))) (a : Fin 24) (h : Fin 32) (w : Fin 512) :
    blkVal c yM r X b (ix3 a h w) = X (ix3 (rowIx r a) (lineIx b h) w) := by
  refine congrArg X (funext fun a' => Fin.ext ?_)
  fin_cases a'
  · show 24 * r.val + 1 * a.val = _; rw [one_mul]; rfl
  · show 32 * b.val + 1 * h.val = _; rw [one_mul]; rfl
  · show 0 + 1 * w.val = _; rw [one_mul, zero_add]; rfl

/-- A pair's product with its 1024 rows of the table. -/
theorem dot_pair (A B : FVec Ideal S24x32x512 .bf16) (R : FVec Ideal S1024x16 .bf16) (a : Fin 24) (h : Fin 32) (q : Fin 16) (m : Fin 768)
    (hm : m.val = a.val * 32 + h.val) (h1 h2) :
    matmul dot_S768x1024_S1024x16_S768x16_1_0_0_1_n_n none
        (shapeCast S768x1024 (concatenate S24x32x1024 2 [⟨S24x32x512, A⟩, ⟨S24x32x512, B⟩] h1) h2) R (constant S768x16 FTy.f32 0#32) (ix2 m q)
      = (∑ w : Fin 512, A (ix3 a h w) * R (ix2 ⟨w.val, by omega⟩ q)) + ∑ w : Fin 512, B (ix3 a h w) * R (ix2 ⟨512 + w.val, by omega⟩ q) := by
  pointwise
  have ha : m.val / 32 = a.val := by have := h.isLt; omega
  have hh : m.val % 32 = h.val := by have := h.isLt; omega
  simp only [ha, hh]
theorem dot_last (A : FVec Ideal S24x32x512 .bf16) (R : FVec Ideal S512x16 .bf16) (a : Fin 24) (h : Fin 32) (q : Fin 16) (m : Fin 768)
    (hm : m.val = a.val * 32 + h.val) (h2) :
    matmul dot_S768x512_S512x16_S768x16_1_0_0_1_n_n none
        (shapeCast S768x512 A h2) R (constant S768x16 FTy.f32 0#32) (ix2 m q)
      = (∑ w : Fin 512, A (ix3 a h w) * R (ix2 w q)) := by
  pointwise
  have ha : m.val / 32 = a.val := by have := h.isLt; omega
  have hh : m.val % 32 = h.val := by have := h.isLt; omega
  simp only [ha, hh]

/-! ## The differences of edges, element by element -/

/-- An element's power of two, and a pair's two edges, in the kernel's own spelling of the constants. -/
def pwN (x : EReal) : EReal := Ideal.exp2 (Named.named (F := Ideal) κ "k2" (φ := .f32) 1129867133#32 * x - Ideal.ofBits .f32 1121452032#32)
abbrev capN : EReal := Named.named (F := Ideal) κ "no_cap" (φ := .bf16) 21376#16
abbrev qN : EReal := Named.named (F := Ideal) κ "q" (φ := .bf16) 17634#16
abbrev qiN : EReal := Named.named (F := Ideal) κ "q_inv" (φ := .bf16) 14865#16
def lowerN (u : EReal) : EReal := Ideal.div (u * (u + qN)) ((u + qiN) * (u + qN))
def upperN (u : EReal) : EReal := Ideal.div (u * (u + qiN)) ((u + qiN) * (u + qN))

theorem pwN_eq (x : EReal) : pwN x = pw x := by unfold pwN pw; rw [nm_k2, lit_108]
theorem lowerN_eq (u : EReal) : lowerN u = lower u := by unfold lowerN lower qN qiN; rw [nm_q, nm_q_inv]
theorem upperN_eq (u : EReal) : upperN u = upper u := by unfold upperN upper qN qiN; rw [nm_q, nm_q_inv]
theorem cap_eq (u : EReal) : min u capN = u := by unfold capN; rw [nm_cap]; exact min_top_right u

/-- A difference of the two images' edges. -/
theorem lower_diff (g : EReal) (k : ℕ) (hg : g = (geo k : EReal)) (x y : EReal) :
    lowerN (pwN x * g) - lowerN (pwN y * g) = ((edge (2 * k) x - edge (2 * k) y : ℝ) : EReal) := by
  rw [lowerN_eq, lowerN_eq, pwN_eq, pwN_eq, hg, lower_edge, lower_edge, ← EReal.coe_sub]
theorem upper_diff (g : EReal) (k : ℕ) (hg : g = (geo k : EReal)) (x y : EReal) :
    upperN (pwN x * g) - upperN (pwN y * g) = ((edge (2 * k + 1) x - edge (2 * k + 1) y : ℝ) : EReal) := by
  rw [upperN_eq, upperN_eq, pwN_eq, pwN_eq, hg, upper_edge, upper_edge, ← EReal.coe_sub]
theorem last_diff (g : EReal) (hg : g = (last : EReal)) (x y : EReal) :
    Ideal.div (pwN x) (pwN x + g) - Ideal.div (pwN y) (pwN y + g) = ((edge 10 x - edge 10 y : ℝ) : EReal) := by
  rw [pwN_eq, pwN_eq, hg, last_edge, last_edge, ← EReal.coe_sub]

section
variable (c : Dev nD) (i : grid0.Coords)
  (X : Buf (Elt Ideal) (xM.view.loc (c : Thread nD τ))) (Y : Buf (Elt Ideal) (yM.view.loc (c : Thread nD τ))) (k : Fin k0_t1_loop.trips) (j : S24x32x512.Idx)

/-- The two elements at an index of the trip's blocks. -/
abbrev xat : EReal := blkVal c xM (rowOf i) X (bk k) j
abbrev yat : EReal := blkVal c yM (rowOf i) Y (bk k) j

theorem px_eq : tripRun.sl.v177_r1 c i X k (chk2_ok k) j = pwN (xat c i X k j) := by
  have e : tripRun.sl.v177_r1 c i X k (chk2_ok k) j = pwN (tripRun.sl.v168_r1 c i X k (chk2_ok k) j) := by
    generalize hv : tripRun.sl.v168_r1 c i X k (chk2_ok k) = v
    pointwise [tripRun.sl.v177_r1, tripRun.sl.v176_r1, tripRun.sl.v175_r1, tripRun.sl.v173_r1, tripRun.sl.v172_r1, tripRun.sl.v174_r1, tripRun.sl.cst_158_r1, tripRun.sl.cst_159_r1]
    rw [hv, pwN]; rfl
  rw [e, xblk]
theorem py_eq : tripRun.sl.v183_r1 c i Y k (chk3_ok k) j = pwN (yat c i Y k j) := by
  have e : tripRun.sl.v183_r1 c i Y k (chk3_ok k) j = pwN (tripRun.sl.v171_r1 c i Y k (chk3_ok k) j) := by
    generalize hv : tripRun.sl.v171_r1 c i Y k (chk3_ok k) = v
    pointwise [tripRun.sl.v183_r1, tripRun.sl.v182_r1, tripRun.sl.v181_r1, tripRun.sl.v179_r1, tripRun.sl.v172_r1, tripRun.sl.v174_r1, tripRun.sl.cst_158_r1, tripRun.sl.cst_159_r1]
    rw [hv, pwN]; rfl
  rw [e, yblk]
theorem diff0 : tripRun.sl.v210_r1 c i X Y k (chk2_ok k) (chk3_ok k) j = ((edge 0 (xat c i X k j) - edge 0 (yat c i Y k j) : ℝ) : EReal) := by
  rw [← lower_diff _ 0 nm_geo0, ← px_eq, ← py_eq]
  generalize hp : tripRun.sl.v177_r1 c i X k (chk2_ok k) = p
  generalize hq : tripRun.sl.v183_r1 c i Y k (chk3_ok k) = q
  pointwise [tripRun.sl.v210_r1, tripRun.sl.v194_r1, tripRun.sl.v193_r1, tripRun.sl.v192_r1, tripRun.sl.v191_r1, tripRun.sl.v189_r1, tripRun.sl.v187_r1, tripRun.sl.v185_r1, tripRun.sl.v207_r1, tripRun.sl.v206_r1, tripRun.sl.v205_r1, tripRun.sl.v204_r1, tripRun.sl.v202_r1, tripRun.sl.v200_r1, tripRun.sl.v198_r1, tripRun.sl.v184_r1, tripRun.sl.v188_r1, tripRun.sl.v190_r1, tripRun.sl.v186_r1, tripRun.sl.cst_162_r1, tripRun.sl.cst_163_r1, tripRun.sl.cst_164_r1, tripRun.sl.cst_165_r1]
  rw [hp, hq, cap_eq, cap_eq, lowerN, lowerN]
theorem diff1 : tripRun.sl.v211_r1 c i X Y k (chk2_ok k) (chk3_ok k) j = ((edge 1 (xat c i X k j) - edge 1 (yat c i Y k j) : ℝ) : EReal) := by
  rw [← upper_diff _ 0 nm_geo0, ← px_eq, ← py_eq]
  generalize hp : tripRun.sl.v177_r1 c i X k (chk2_ok k) = p
  generalize hq : tripRun.sl.v183_r1 c i Y k (chk3_ok k) = q
  pointwise [tripRun.sl.v211_r1, tripRun.sl.v196_r1, tripRun.sl.v195_r1, tripRun.sl.v192_r1, tripRun.sl.v191_r1, tripRun.sl.v189_r1, tripRun.sl.v187_r1, tripRun.sl.v185_r1, tripRun.sl.v209_r1, tripRun.sl.v208_r1, tripRun.sl.v205_r1, tripRun.sl.v204_r1, tripRun.sl.v202_r1, tripRun.sl.v200_r1, tripRun.sl.v198_r1, tripRun.sl.v184_r1, tripRun.sl.v188_r1, tripRun.sl.v190_r1, tripRun.sl.v186_r1, tripRun.sl.cst_162_r1, tripRun.sl.cst_163_r1, tripRun.sl.cst_164_r1, tripRun.sl.cst_165_r1]
  rw [hp, hq, cap_eq, cap_eq, upperN, upperN]
theorem diff2 : tripRun.sl.v242_r1 c i X Y k (chk2_ok k) (chk3_ok k) j = ((edge 2 (xat c i X k j) - edge 2 (yat c i Y k j) : ℝ) : EReal) := by
  rw [← lower_diff _ 1 nm_geo1, ← px_eq, ← py_eq]
  generalize hp : tripRun.sl.v177_r1 c i X k (chk2_ok k) = p
  generalize hq : tripRun.sl.v183_r1 c i Y k (chk3_ok k) = q
  pointwise [tripRun.sl.v242_r1, tripRun.sl.v226_r1, tripRun.sl.v225_r1, tripRun.sl.v224_r1, tripRun.sl.v223_r1, tripRun.sl.v221_r1, tripRun.sl.v219_r1, tripRun.sl.v217_r1, tripRun.sl.v239_r1, tripRun.sl.v238_r1, tripRun.sl.v237_r1, tripRun.sl.v236_r1, tripRun.sl.v234_r1, tripRun.sl.v232_r1, tripRun.sl.v230_r1, tripRun.sl.v216_r1, tripRun.sl.v188_r1, tripRun.sl.v190_r1, tripRun.sl.v186_r1, tripRun.sl.cst_173_r1, tripRun.sl.cst_163_r1, tripRun.sl.cst_164_r1, tripRun.sl.cst_165_r1]
  rw [hp, hq, cap_eq, cap_eq, lowerN, lowerN]
theorem diff3 : tripRun.sl.v243_r1 c i X Y k (chk2_ok k) (chk3_ok k) j = ((edge 3 (xat c i X k j) - edge 3 (yat c i Y k j) : ℝ) : EReal) := by
  rw [← upper_diff _ 1 nm_geo1, ← px_eq, ← py_eq]
  generalize hp : tripRun.sl.v177_r1 c i X k (chk2_ok k) = p
  generalize hq : tripRun.sl.v183_r1 c i Y k (chk3_ok k) = q
  pointwise [tripRun.sl.v243_r1, tripRun.sl.v228_r1, tripRun.sl.v227_r1, tripRun.sl.v224_r1, tripRun.sl.v223_r1, tripRun.sl.v221_r1, tripRun.sl.v219_r1, tripRun.sl.v217_r1, tripRun.sl.v241_r1, tripRun.sl.v240_r1, tripRun.sl.v237_r1, tripRun.sl.v236_r1, tripRun.sl.v234_r1, tripRun.sl.v232_r1, tripRun.sl.v230_r1, tripRun.sl.v216_r1, tripRun.sl.v188_r1, tripRun.sl.v190_r1, tripRun.sl.v186_r1, tripRun.sl.cst_173_r1, tripRun.sl.cst_163_r1, tripRun.sl.cst_164_r1, tripRun.sl.cst_165_r1]
  rw [hp, hq, cap_eq, cap_eq, upperN, upperN]
theorem diff4 : tripRun.sl.v275_r1 c i X Y k (chk2_ok k) (chk3_ok k) j = ((edge 4 (xat c i X k j) - edge 4 (yat c i Y k j) : ℝ) : EReal) := by
  rw [← lower_diff _ 2 nm_geo2, ← px_eq, ← py_eq]
  generalize hp : tripRun.sl.v177_r1 c i X k (chk2_ok k) = p
  generalize hq : tripRun.sl.v183_r1 c i Y k (chk3_ok k) = q
  pointwise [tripRun.sl.v275_r1, tripRun.sl.v259_r1, tripRun.sl.v258_r1, tripRun.sl.v257_r1, tripRun.sl.v256_r1, tripRun.sl.v254_r1, tripRun.sl.v252_r1, tripRun.sl.v250_r1, tripRun.sl.v272_r1, tripRun.sl.v271_r1, tripRun.sl.v270_r1, tripRun.sl.v269_r1, tripRun.sl.v267_r1, tripRun.sl.v265_r1, tripRun.sl.v263_r1, tripRun.sl.v249_r1, tripRun.sl.v188_r1, tripRun.sl.v190_r1, tripRun.sl.v186_r1, tripRun.sl.cst_183_r1, tripRun.sl.cst_163_r1, tripRun.sl.cst_164_r1, tripRun.sl.cst_165_r1]
  rw [hp, hq, cap_eq, cap_eq, lowerN, lowerN]
theorem diff5 : tripRun.sl.v276_r1 c i X Y k (chk2_ok k) (chk3_ok k) j = ((edge 5 (xat c i X k j) - edge 5 (yat c i Y k j) : ℝ) : EReal) := by
  rw [← upper_diff _ 2 nm_geo2, ← px_eq, ← py_eq]
  generalize hp : tripRun.sl.v177_r1 c i X k (chk2_ok k) = p
  generalize hq : tripRun.sl.v183_r1 c i Y k (chk3_ok k) = q
  pointwise [tripRun.sl.v276_r1, tripRun.sl.v261_r1, tripRun.sl.v260_r1, tripRun.sl.v257_r1, tripRun.sl.v256_r1, tripRun.sl.v254_r1, tripRun.sl.v252_r1, tripRun.sl.v250_r1, tripRun.sl.v274_r1, tripRun.sl.v273_r1, tripRun.sl.v270_r1, tripRun.sl.v269_r1, tripRun.sl.v267_r1, tripRun.sl.v265_r1, tripRun.sl.v263_r1, tripRun.sl.v249_r1, tripRun.sl.v188_r1, tripRun.sl.v190_r1, tripRun.sl.v186_r1, tripRun.sl.cst_183_r1, tripRun.sl.cst_163_r1, tripRun.sl.cst_164_r1, tripRun.sl.cst_165_r1]
  rw [hp, hq, cap_eq, cap_eq, upperN, upperN]
theorem diff6 : tripRun.sl.v308_r1 c i X Y k (chk2_ok k) (chk3_ok k) j = ((edge 6 (xat c i X k j) - edge 6 (yat c i Y k j) : ℝ) : EReal) := by
  rw [← lower_diff _ 3 nm_geo3, ← px_eq, ← py_eq]
  generalize hp : tripRun.sl.v177_r1 c i X k (chk2_ok k) = p
  generalize hq : tripRun.sl.v183_r1 c i Y k (chk3_ok k) = q
  pointwise [tripRun.sl.v308_r1, tripRun.sl.v292_r1, tripRun.sl.v291_r1, tripRun.sl.v290_r1, tripRun.sl.v289_r1, tripRun.sl.v287_r1, tripRun.sl.v285_r1, tripRun.sl.v283_r1, tripRun.sl.v305_r1, tripRun.sl.v304_r1, tripRun.sl.v303_r1, tripRun.sl.v302_r1, tripRun.sl.v300_r1, tripRun.sl.v298_r1, tripRun.sl.v296_r1, tripRun.sl.v282_r1, tripRun.sl.v188_r1, tripRun.sl.v190_r1, tripRun.sl.v186_r1, tripRun.sl.cst_193_r1, tripRun.sl.cst_163_r1, tripRun.sl.cst_164_r1, tripRun.sl.cst_165_r1]
  rw [hp, hq, cap_eq, cap_eq, lowerN, lowerN]
theorem diff7 : tripRun.sl.v309_r1 c i X Y k (chk2_ok k) (chk3_ok k) j = ((edge 7 (xat c i X k j) - edge 7 (yat c i Y k j) : ℝ) : EReal) := by
  rw [← upper_diff _ 3 nm_geo3, ← px_eq, ← py_eq]
  generalize hp : tripRun.sl.v177_r1 c i X k (chk2_ok k) = p
  generalize hq : tripRun.sl.v183_r1 c i Y k (chk3_ok k) = q
  pointwise [tripRun.sl.v309_r1, tripRun.sl.v294_r1, tripRun.sl.v293_r1, tripRun.sl.v290_r1, tripRun.sl.v289_r1, tripRun.sl.v287_r1, tripRun.sl.v285_r1, tripRun.sl.v283_r1, tripRun.sl.v307_r1, tripRun.sl.v306_r1, tripRun.sl.v303_r1, tripRun.sl.v302_r1, tripRun.sl.v300_r1, tripRun.sl.v298_r1, tripRun.sl.v296_r1, tripRun.sl.v282_r1, tripRun.sl.v188_r1, tripRun.sl.v190_r1, tripRun.sl.v186_r1, tripRun.sl.cst_193_r1, tripRun.sl.cst_163_r1, tripRun.sl.cst_164_r1, tripRun.sl.cst_165_r1]
  rw [hp, hq, cap_eq, cap_eq, upperN, upperN]
theorem diff8 : tripRun.sl.v337_r1 c i X Y k (chk2_ok k) (chk3_ok k) j = ((edge 8 (xat c i X k j) - edge 8 (yat c i Y k j) : ℝ) : EReal) := by
  rw [← lower_diff _ 4 nm_geo4, ← px_eq, ← py_eq]
  generalize hp : tripRun.sl.v177_r1 c i X k (chk2_ok k) = p
  generalize hq : tripRun.sl.v183_r1 c i Y k (chk3_ok k) = q
  pointwise [tripRun.sl.v337_r1, tripRun.sl.v323_r1, tripRun.sl.v322_r1, tripRun.sl.v321_r1, tripRun.sl.v320_r1, tripRun.sl.v318_r1, tripRun.sl.v316_r1, tripRun.sl.v334_r1, tripRun.sl.v333_r1, tripRun.sl.v332_r1, tripRun.sl.v331_r1, tripRun.sl.v329_r1, tripRun.sl.v327_r1, tripRun.sl.v315_r1, tripRun.sl.v188_r1, tripRun.sl.v190_r1, tripRun.sl.v186_r1, tripRun.sl.cst_203_r1, tripRun.sl.cst_163_r1, tripRun.sl.cst_164_r1, tripRun.sl.cst_165_r1]
  rw [hp, hq, lowerN, lowerN]
theorem diff9 : tripRun.sl.v338_r1 c i X Y k (chk2_ok k) (chk3_ok k) j = ((edge 9 (xat c i X k j) - edge 9 (yat c i Y k j) : ℝ) : EReal) := by
  rw [← upper_diff _ 4 nm_geo4, ← px_eq, ← py_eq]
  generalize hp : tripRun.sl.v177_r1 c i X k (chk2_ok k) = p
  generalize hq : tripRun.sl.v183_r1 c i Y k (chk3_ok k) = q
  pointwise [tripRun.sl.v338_r1, tripRun.sl.v325_r1, tripRun.sl.v324_r1, tripRun.sl.v321_r1, tripRun.sl.v320_r1, tripRun.sl.v318_r1, tripRun.sl.v316_r1, tripRun.sl.v336_r1, tripRun.sl.v335_r1, tripRun.sl.v332_r1, tripRun.sl.v331_r1, tripRun.sl.v329_r1, tripRun.sl.v327_r1, tripRun.sl.v315_r1, tripRun.sl.v188_r1, tripRun.sl.v190_r1, tripRun.sl.v186_r1, tripRun.sl.cst_203_r1, tripRun.sl.cst_163_r1, tripRun.sl.cst_164_r1, tripRun.sl.cst_165_r1]
  rw [hp, hq, upperN, upperN]
theorem diff10 : tripRun.sl.v350_r1 c i X Y k (chk2_ok k) (chk3_ok k) j = ((edge 10 (xat c i X k j) - edge 10 (yat c i Y k j) : ℝ) : EReal) := by
  rw [← last_diff _ nm_last, ← px_eq, ← py_eq]
  generalize hp : tripRun.sl.v177_r1 c i X k (chk2_ok k) = p
  generalize hq : tripRun.sl.v183_r1 c i Y k (chk3_ok k) = q
  pointwise [tripRun.sl.v350_r1, tripRun.sl.v346_r1, tripRun.sl.v345_r1, tripRun.sl.v349_r1, tripRun.sl.v348_r1, tripRun.sl.v344_r1, tripRun.sl.cst_211_r1]
  rw [hp, hq]

end

end Cert.Proof.Hist

end
end
-- ==== Proof.Step.lean ====
/-
  What one trip adds to the accumulator: at row `a` and column `q`, the sum over the block's 32 lines and 512 places of
  the differences of the two images' edge `q`. The selector table puts each edge's sums in that edge's column.
-/
module

public import proofs.«01_k».proof.Proof.Block

@[expose] public section

set_option maxRecDepth 16384

noncomputable section

namespace Cert.Proof.Hist

open Cert.KernelIdeal Cert.KernelIdeal.Gen
open Idealize.ShloMosaic
open Idealize.ShloMosaic.TcCoe

/-- A finite sum of reals, as extended reals. -/
theorem coe_sum {ι : Type} (s : Finset ι) (f : ι → ℝ) : ((∑ w ∈ s, f w : ℝ) : EReal) = ∑ w ∈ s, ((f w : ℝ) : EReal) := by
  classical
  induction s using Finset.induction_on with
  | empty => simp
  | insert a s ha ih => rw [Finset.sum_insert ha, Finset.sum_insert ha, EReal.coe_add, ih]

/-- The selector: one where the row belongs to the column, zero elsewhere. -/
def pick (n q : ℕ) : ℝ := if n / 512 = q then 1 else 0

section
variable (c : Dev nD) (T : Buf (Elt Ideal) (tabM.view.loc (c : Thread nD τ)))
  (hT : ∀ (n : Fin 5632) (q : Fin 16), T (ix2 n q) = ((pick n.val q.val : ℝ) : EReal))

include hT in
theorem tab_pair (o : ℕ) (inb : ∀ a, (![o, 0] : Fin 2 → ℕ) a + S1024x16.size a ≤ S5632x16.size a) (n : Fin 1024) (q : Fin 16) :
    View.readAt (Elt Ideal) tabM.view (Rect.unit (s := S5632x16) ![o, 0] S1024x16.size inb).toLoadRect T (ix2 n q) = ((pick (o + n.val) q.val : ℝ) : EReal) := by
  have h0 : o + 1024 ≤ 5632 := inb 0
  refine Eq.trans ?_ (hT ⟨o + n.val, by have := n.isLt; omega⟩ q)
  refine congrArg T (funext fun a => Fin.ext ?_)
  fin_cases a
  · show o + 1 * n.val = _; rw [one_mul]; rfl
  · show 0 + 1 * q.val = _; rw [one_mul, zero_add]; rfl
include hT in
theorem tab_last (o : ℕ) (inb : ∀ a, (![o, 0] : Fin 2 → ℕ) a + S512x16.size a ≤ S5632x16.size a) (n : Fin 512) (q : Fin 16) :
    View.readAt (Elt Ideal) tabM.view (Rect.unit (s := S5632x16) ![o, 0] S512x16.size inb).toLoadRect T (ix2 n q) = ((pick (o + n.val) q.val : ℝ) : EReal) := by
  have h0 : o + 512 ≤ 5632 := inb 0
  refine Eq.trans ?_ (hT ⟨o + n.val, by have := n.isLt; omega⟩ q)
  refine congrArg T (funext fun a => Fin.ext ?_)
  fin_cases a
  · show o + 1 * n.val = _; rw [one_mul]; rfl
  · show 0 + 1 * q.val = _; rw [one_mul, zero_add]; rfl

theorem sum_pick (f : Fin 512 → ℝ) (e q : ℕ) : (∑ w : Fin 512, ((f w : ℝ) : EReal) * ((pick (512 * e + w.val) q : ℝ) : EReal))
    = ((if e = q then ∑ w, f w else 0 : ℝ) : EReal) := by
  have h (w : Fin 512) : ((f w : ℝ) : EReal) * ((pick (512 * e + w.val) q : ℝ) : EReal) = ((if e = q then f w else 0 : ℝ) : EReal) := by
    have : (512 * e + w.val) / 512 = e := by have := w.isLt; omega
    rw [← EReal.coe_mul, pick, this]; split_ifs <;> simp
  rw [Finset.sum_congr rfl fun w _ => h w, ← coe_sum]
  split_ifs <;> simp

variable (a : Fin 24) (h : Fin 32) (q : Fin 16) (m : Fin 768) (hm : m.val = a.val * 32 + h.val)
include hT hm

/-- A pair's product. -/
theorem pair_val (e : ℕ) (A B : FVec Ideal S24x32x512 .bf16) (f g : Fin 512 → ℝ) (hA : ∀ w, A (ix3 a h w) = ((f w : ℝ) : EReal))
    (hB : ∀ w, B (ix3 a h w) = ((g w : ℝ) : EReal)) (inb : ∀ a, (![1024 * e, 0] : Fin 2 → ℕ) a + S1024x16.size a ≤ S5632x16.size a) (h1 h2) :
    matmul (φ₂ := .bf16) dot_S768x1024_S1024x16_S768x16_1_0_0_1_n_n none
        (shapeCast S768x1024 (concatenate S24x32x1024 2 [⟨S24x32x512, A⟩, ⟨S24x32x512, B⟩] h1) h2)
        (View.readAt (Elt Ideal) tabM.view (Rect.unit (s := S5632x16) ![1024 * e, 0] S1024x16.size inb).toLoadRect T) (constant S768x16 FTy.f32 0#32) (ix2 m q)
      = (((if 2 * e = q.val then ∑ w, f w else 0) + (if 2 * e + 1 = q.val then ∑ w, g w else 0) : ℝ) : EReal) := by
  rw [dot_pair A B _ a h q m hm, EReal.coe_add, ← sum_pick f (2 * e), ← sum_pick g (2 * e + 1)]
  congr 1
  · refine Finset.sum_congr rfl fun w _ => ?_
    rw [hA, tab_pair c T hT]; simp only; rw [show 512 * (2 * e) = 1024 * e by ring]
  · refine Finset.sum_congr rfl fun w _ => ?_
    rw [hB, tab_pair c T hT]; simp only; rw [show 512 * (2 * e + 1) + w.val = 1024 * e + (512 + w.val) by ring]

/-- The last edge's product. -/
theorem last_val (A : FVec Ideal S24x32x512 .bf16) (f : Fin 512 → ℝ) (hA : ∀ w, A (ix3 a h w) = ((f w : ℝ) : EReal))
    (inb : ∀ a, (![5120, 0] : Fin 2 → ℕ) a + S512x16.size a ≤ S5632x16.size a) (h2) :
    matmul (φ₂ := .bf16) dot_S768x512_S512x16_S768x16_1_0_0_1_n_n none (shapeCast S768x512 A h2)
        (View.readAt (Elt Ideal) tabM.view (Rect.unit (s := S5632x16) ![5120, 0] S512x16.size inb).toLoadRect T) (constant S768x16 FTy.f32 0#32) (ix2 m q)
      = ((if 10 = q.val then ∑ w, f w else 0 : ℝ) : EReal) := by
  rw [dot_last A _ a h q m hm, ← sum_pick f 10]
  refine Finset.sum_congr rfl fun w _ => ?_
  rw [hA, tab_last c T hT]

end

section
variable (c : Dev nD) (i : grid0.Coords)
  (X : Buf (Elt Ideal) (xM.view.loc (c : Thread nD τ))) (Y : Buf (Elt Ideal) (yM.view.loc (c : Thread nD τ)))
  (T : Buf (Elt Ideal) (tabM.view.loc (c : Thread nD τ))) (k : Fin k0_t1_loop.trips)
  (hT : ∀ (n : Fin 5632) (q : Fin 16), T (ix2 n q) = ((pick n.val q.val : ℝ) : EReal))
  (a : Fin 24) (q : Fin 16)

/-- The difference of the images' edge `e` at an index of the trip's blocks. -/
def diff (e : ℕ) (j : S24x32x512.Idx) : ℝ := edge e (xat c i X k j) - edge e (yat c i Y k j)

include hT in
/-- The six products together pick column `q`'s edge. -/
theorem line_val (h : Fin 32) (m : Fin 768) (hm : m.val = a.val * 32 + h.val) (hq : q.val < 11) :
    tripRun.sl.v354_r1 c i X Y T k (chk2_ok k) (chk3_ok k) (ix2 m q) = ((∑ w : Fin 512, diff c i X Y k q.val (ix3 a h w) : ℝ) : EReal) := by
  have p0 := pair_val c T hT a h q m hm 0 _ _ _ _ (fun w => diff0 c i X Y k (ix3 a h w)) (fun w => diff1 c i X Y k (ix3 a h w))
  have p1 := pair_val c T hT a h q m hm 1 _ _ _ _ (fun w => diff2 c i X Y k (ix3 a h w)) (fun w => diff3 c i X Y k (ix3 a h w))
  have p2 := pair_val c T hT a h q m hm 2 _ _ _ _ (fun w => diff4 c i X Y k (ix3 a h w)) (fun w => diff5 c i X Y k (ix3 a h w))
  have p3 := pair_val c T hT a h q m hm 3 _ _ _ _ (fun w => diff6 c i X Y k (ix3 a h w)) (fun w => diff7 c i X Y k (ix3 a h w))
  have p4 := pair_val c T hT a h q m hm 4 _ _ _ _ (fun w => diff8 c i X Y k (ix3 a h w)) (fun w => diff9 c i X Y k (ix3 a h w))
  have p5 := last_val c T hT a h q m hm _ _ (fun w => diff10 c i X Y k (ix3 a h w))
  have e0 : tripRun.sl.v215_r1 c i X Y T k (chk2_ok k) (chk3_ok k) (ix2 m q) = _ := p0 _ _ _
  have e1 : tripRun.sl.v247_r1 c i X Y T k (chk2_ok k) (chk3_ok k) (ix2 m q) = _ := p1 _ _ _
  have e2 : tripRun.sl.v280_r1 c i X Y T k (chk2_ok k) (chk3_ok k) (ix2 m q) = _ := p2 _ _ _
  have e3 : tripRun.sl.v313_r1 c i X Y T k (chk2_ok k) (chk3_ok k) (ix2 m q) = _ := p3 _ _ _
  have e4 : tripRun.sl.v342_r1 c i X Y T k (chk2_ok k) (chk3_ok k) (ix2 m q) = _ := p4 _ _ _
  have e5 : tripRun.sl.v353_r1 c i X Y T k (chk2_ok k) (chk3_ok k) (ix2 m q) = _ := p5 _ _
  pointwise [tripRun.sl.v354_r1, tripRun.sl.v343_r1, tripRun.sl.v314_r1, tripRun.sl.v281_r1, tripRun.sl.v248_r1]
  rw [e0, e1, e2, e3, e4, e5]
  simp only [← EReal.coe_add, EReal.coe_eq_coe_iff]
  obtain ⟨q, hq'⟩ := q
  simp only at hq ⊢
  unfold diff
  interval_cases q <;> simp

include hT in
/-- What the trip stores, at row `a` and column `q`. -/
theorem step_val (f : Buf (Elt Ideal) (accM.view.loc (c : Thread nD τ))) (hq : q.val < 11) :
    (show EReal from stepVal c i X Y T k f (ix2 a q)) = (show EReal from f (ix2 a q)) + ((∑ h : Fin 32, ∑ w : Fin 512, diff c i X Y k q.val (ix3 a h w) : ℝ) : EReal) := by
  have hl (h : Fin 32) (m : Fin 768) (hm) := line_val c i X Y T k hT a q h m hm hq
  have e : (show EReal from stepVal c i X Y T k f (ix2 a q)) = (show EReal from f (ix2 a q)) + ∑ h : Fin 32, tripRun.sl.v354_r1 c i X Y T k (chk2_ok k) (chk3_ok k) (ix2 ⟨a.val * 32 + h.val, by have := a.isLt; have := h.isLt; omega⟩ q) := by
    unfold stepVal
    pointwise [tripRun.sl.v361_r1, tripRun.sl.v358_r1, tripRun.sl.v356_r1, tripRun.sl.v355_r1]
    refine congrArg (· + _) (congrArg f (funext fun b => Fin.ext ?_))
    fin_cases b
    · show 0 + 1 * a.val = _; rw [one_mul, zero_add]; rfl
    · show 0 + 1 * q.val = _; rw [one_mul, zero_add]; rfl
  rw [e, coe_sum]
  refine congrArg _ (Finset.sum_congr rfl fun h _ => hl h _ rfl)

end

end Cert.Proof.Hist

end
end
-- ==== Proof.Sums.lean ====
/-
  The first call's result: at row `p` and column `q ≤ 10`, the sum over all of image row `p` of the differences of the
  two images' edge `q`.
-/
module

public import proofs.«01_k».proof.Proof.Step
public import proofs.«01_k».proof.Proof.Calls

@[expose] public section

set_option maxRecDepth 16384

noncomputable section

namespace Cert.Proof.Hist

open Cert.KernelIdeal Cert.KernelIdeal.Gen
open Idealize.ShloMosaic
open Idealize.ShloMosaic.TcCoe

/-- The sum over an image row of the differences of edge `e`. -/
def rowSum (A B : S48x512x512.Idx → EReal) (e : ℕ) (p : Fin 48) : ℝ :=
  ∑ l : Fin 512, ∑ w : Fin 512, (edge e (A (ix3 p l w)) - edge e (B (ix3 p l w)))

/-- Sixteen blocks of 32 lines are 512 lines. -/
theorem sum_blocks (f : Fin 512 → ℝ) : (∑ k ∈ Finset.range 16, ∑ h : Fin 32, f (lineIx (bk k) h)) = ∑ l : Fin 512, f l := by
  rw [Finset.sum_range fun k => ∑ h : Fin 32, f (lineIx (bk k) h)]
  have e := Fin.sum_univ_mul_divNat_modNat 16 32 fun a b => f (lineIx (bk a.val) b)
  rw [← e]
  refine Finset.sum_congr rfl fun t _ => congrArg f (Fin.ext ?_)
  have ht : t.val < 512 := t.isLt
  show 32 * (t.val / 32 % 16) + t.val % 32 = t.val
  omega

section
variable (c : Dev nD) (i : grid0.Coords)
  (X : Buf (Elt Ideal) (xM.view.loc (c : Thread nD τ))) (Y : Buf (Elt Ideal) (yM.view.loc (c : Thread nD τ)))

theorem diff_eq (k : Fin k0_t1_loop.trips) (e : ℕ) (a : Fin 24) (h : Fin 32) (w : Fin 512) :
    diff c i X Y k e (ix3 a h w) = edge e (X (ix3 (rowIx (rowOf i) a) (lineIx (bk k) h) w)) - edge e (Y (ix3 (rowIx (rowOf i) a) (lineIx (bk k) h) w)) := by
  unfold diff xat yat
  rw [blk_apply, blk_apply']

variable (T : Buf (Elt Ideal) (tabM.view.loc (c : Thread nD τ)))
  (hT : ∀ (n : Fin 5632) (q : Fin 16), T (ix2 n q) = ((pick n.val q.val : ℝ) : EReal))
  (f0 : Buf (Elt Ideal) (accM.view.loc (c : Thread nD τ))) (a : Fin 24) (q : Fin 16) (hq : q.val < 11)
  (h0 : f0 (ix2 a q) = (0 : EReal))

include hT hq h0 in
theorem acc_val (n : ℕ) (hn : n ≤ 16) : accAt c i X Y T f0 n (ix2 a q) = ((∑ k ∈ Finset.range n, ∑ h : Fin 32, ∑ w : Fin 512,
    (edge q.val (X (ix3 (rowIx (rowOf i) a) (lineIx (bk k) h) w)) - edge q.val (Y (ix3 (rowIx (rowOf i) a) (lineIx (bk k) h) w))) : ℝ) : EReal) := by
  induction n with
  | zero => rw [Finset.sum_range_zero]; exact h0
  | succ n ih =>
    have hk : n < k0_t1_loop.trips := trips_eq ▸ hn
    have e := accAt_succ c i X Y T f0 ⟨n, hk⟩
    have e1 : accAt c i X Y T f0 (n + 1) (ix2 a q) = stepVal c i X Y T ⟨n, hk⟩ (accAt c i X Y T f0 n) (ix2 a q) := by
      rw [e]
      exact congrFun (View.read_writes_full accM.view (accAt c i X Y T f0 n) inb_S24x16_S24x16_0_0 (stepVal c i X Y T ⟨n, hk⟩ (accAt c i X Y T f0 n)) []) (ix2 a q)
    rw [e1]
    refine (step_val c i X Y T ⟨n, hk⟩ hT a q (accAt c i X Y T f0 n) hq).trans ?_
    rw [show (show EReal from accAt c i X Y T f0 n (ix2 a q)) = _ from ih (by omega), ← EReal.coe_add, Finset.sum_range_succ]
    refine congrArg _ (congrArg _ (Finset.sum_congr rfl fun h _ => Finset.sum_congr rfl fun w _ => ?_))
    rw [diff_eq]

end

/-- What is written over the whole accumulator is what is read back. -/
theorem acc_write (c : Dev nD) (f : Buf (Elt Ideal) (accM.view.loc (c : Thread nD τ))) (v : FVec Ideal S24x16 .f32) (j : S24x16.Idx) :
    accM.view.writes (Elt Ideal) f [⟨R00, v⟩] j = v j :=
  congrFun (View.read_writes_full accM.view f inb_S24x16_S24x16_0_0 v []) j

/-- The accumulator's first contents are zero. -/
theorem zero_val (c : Dev nD) (j : S24x16.Idx) : accZero (F := Ideal) c j = (0 : EReal) := by
  unfold accZero
  refine (acc_write c _ _ j).trans ?_
  pointwise

/-- What is written over the whole table is what is read back. -/
theorem tab_write (c : Dev nD) (f : Buf (Elt Ideal) (tabM.view.loc (c : Thread nD τ))) (v : FVec Ideal S5632x16 .bf16) (j : S5632x16.Idx) :
    tabM.view.writes (Elt Ideal) f [⟨Rect.whole S5632x16, v⟩] j = v j := by
  have e := congrFun (View.read_writes_whole (Val := Elt Ideal) tabM.view f v) j
  generalize tabM.view.writes (Elt Ideal) f [⟨Rect.whole S5632x16, v⟩] = g at e ⊢
  exact e

/-- The first call's table, read through its whole view. -/
theorem sel_read (c : Dev nD) (S : Buf (Elt Ideal) (selM.view.loc (c : Thread nD τ))) (j : S5632x16.Idx) :
    (show FVec Ideal S5632x16 .bf16 from ReadAs.same.apply (selM.view.read (Elt Ideal) S)) j = S j := rfl

/-- What the table's buffer holds after the copy. -/
theorem tab_val (c : Dev nD) (S : Buf (Elt Ideal) (selM.view.loc (c : Thread nD τ))) (j : S5632x16.Idx) : tabOf c S j = S j :=
  (tab_write c tabM.view.junk (ReadAs.same.apply (selM.view.read (Elt Ideal) S)) j).trans (sel_read c S j)

/-- The accumulator after the last trip. -/
theorem done_val (c : Dev nD) (i : grid0.Coords)
    (X : Buf (Elt Ideal) (xM.view.loc (c : Thread nD τ))) (Y : Buf (Elt Ideal) (yM.view.loc (c : Thread nD τ)))
    (S : Buf (Elt Ideal) (selM.view.loc (c : Thread nD τ))) (hS : ∀ (n : Fin 5632) (q : Fin 16), S (ix2 n q) = ((pick n.val q.val : ℝ) : EReal))
    (a : Fin 24) (q : Fin 16) (hq : q.val < 11) :
    accDone c i X Y S (ix2 a q) = ((rowSum X Y q.val (rowIx (rowOf i) a) : ℝ) : EReal) := by
  have hT (n : Fin 5632) (q : Fin 16) : tabOf c S (ix2 n q) = ((pick n.val q.val : ℝ) : EReal) := (tab_val c S _).trans (hS n q)
  have h0 : accZero (F := Ideal) c (ix2 a q) = (0 : EReal) := zero_val c _
  unfold accDone
  rw [acc_val c i X Y (tabOf c S) hT (accZero c) a q hq h0 16 le_rfl]
  rw [sum_blocks fun l => ∑ w : Fin 512, (edge q.val (X (ix3 (rowIx (rowOf i) a) l w)) - edge q.val (Y (ix3 (rowIx (rowOf i) a) l w)))]
  rfl

/-- The first call's result, read at an index. -/
theorem sumsAll_val (m : (ℓ : Loc nD τ sig) → Buf (Elt Ideal) ℓ) (c : Dev nD)
    (hS : ∀ (n : Fin 5632) (q : Fin 16), S₀ m c (ix2 n q) = ((pick n.val q.val : ℝ) : EReal)) (p : Fin 48) (q : Fin 16) (hq : q.val < 11) :
    sumsAll m c (ix2 p q) = ((rowSum (X₀ m c) (Y₀ m c) q.val p : ℝ) : EReal) := by
  have hp := p.isLt
  have hr : p.val / 24 < 2 := by omega
  have hmem : (ix2 p q : S48x16.Idx) ∈ rowSet ⟨p.val / 24, hr⟩ := by
    unfold rowSet; rw [Rect.mem_set_unit]
    intro a; fin_cases a
    · show 24 * (p.val / 24) ≤ p.val ∧ p.val < 24 * (p.val / 24) + 24; omega
    · show 0 ≤ q.val ∧ q.val < 0 + 16; have := q.isLt; omega
  unfold sumsAll
  rw [glue_eq c _ ⟨p.val / 24, hr⟩ _ hmem]
  have ha : p.val % 24 < 24 := Nat.mod_lt _ (by decide)
  have e := congrFun (View.read_writes_whole (rows ⟨p.val / 24, hr⟩).view (O₀ m c) (sums m c ⟨p.val / 24, hr⟩)) (ix2 ⟨p.val % 24, ha⟩ q)
  have hi : (rows ⟨p.val / 24, hr⟩).view.emb (ix2 ⟨p.val % 24, ha⟩ q) = (ix2 p q : S48x16.Idx) := by
    funext a; refine Fin.ext ?_; fin_cases a
    · show 24 * (p.val / 24) + 1 * (p.val % 24) = p.val; omega
    · show 0 + 1 * q.val = q.val; omega
  have e2 : outG m c ⟨p.val / 24, hr⟩ (ix2 p q) = sums m c ⟨p.val / 24, hr⟩ (ix2 ⟨p.val % 24, ha⟩ q) := by
    rw [← e, ← hi]; rfl
  rw [e2]
  refine (done_val c (pt ⟨p.val / 24, hr⟩) (X₀ m c) (Y₀ m c) (S₀ m c) hS ⟨p.val % 24, ha⟩ q hq).trans ?_
  have hpi : rowIx (rowOf (pt ⟨p.val / 24, hr⟩)) ⟨p.val % 24, ha⟩ = p := Fin.ext (show 24 * (p.val / 24) + p.val % 24 = p.val by omega)
  rw [hpi]

end Cert.Proof.Hist

end
end
-- ==== Proof.Table.lean ====
/-
  What the first call's operands hold: the table is 1 at row `n`, column `n / 512` and 0 elsewhere; the images are the
  arguments with batch and channel made one axis.
-/
module

public import proofs.«01_k».proof.Proof.Step
public import proofs.«01_k».proof.Proof.Calls
public import Idealize.ShloMosaic.Lib.StableHlo.ReadAt
public import Idealize.ShloMosaic.Lib.Tactic.WordOmega

@[expose] public section

set_option maxRecDepth 16384

noncomputable section

namespace Cert.Proof.Hist

open Cert.KernelIdeal Cert.KernelIdeal.Gen
open Idealize.ShloMosaic
open Idealize.ShloMosaic.TcCoe

theorem table_val (m : (ℓ : Loc nD τ sig) → Buf (Elt Ideal) ℓ) (c : Dev nD) (n : Fin 5632) (q : Fin 16) :
    S₀ m c (ix2 n q) = ((pick n.val q.val : ℝ) : EReal) := by
  unfold S₀ V3 V2 V1
  after_reads_at
  have hn := n.isLt
  have hq := q.isLt
  unfold pick
  rw [show IntOp.muli (512#32) (BitVec.ofNat 32 q.val) = BitVec.ofNat 32 (512 * q.val) from (BitVec.ofNat_mul 512 q.val).symm]
  by_cases hd : n.val / 512 = q.val
  · rw [if_pos hd]
    have e : IntOp.andi (IntOp.cmpi CmpIPredicate.sge (BitVec.ofNat 32 n.val) (BitVec.ofNat 32 (512 * q.val)))
        (IntOp.cmpi CmpIPredicate.slt (BitVec.ofNat 32 n.val) (IntOp.addi (BitVec.ofNat 32 (512 * q.val)) 512#32)) = 1#1 := by
      word_omega
    rw [e]
    rfl
  · rw [if_neg hd]
    rcases Nat.lt_or_ge n.val (512 * q.val) with hlt | hge
    · have e : IntOp.cmpi CmpIPredicate.sge (BitVec.ofNat 32 n.val) (BitVec.ofNat 32 (512 * q.val)) = 0#1 := by word_omega
      rw [e, show ∀ x : BitVec 1, IntOp.andi (0#1) x = 0#1 from fun x => BitVec.zero_and]
      rfl
    · have e : IntOp.cmpi CmpIPredicate.slt (BitVec.ofNat 32 n.val) (IntOp.addi (BitVec.ofNat 32 (512 * q.val)) 512#32) = 0#1 := by word_omega
      rw [e, show ∀ x : BitVec 1, IntOp.andi x (0#1) = 0#1 from fun x => BitVec.and_zero]
      rfl

theorem x_val (m : (ℓ : Loc nD τ sig) → Buf (Elt Ideal) ℓ) (c : Dev nD) (b : Fin 16) (t : Fin 3) (h w : Fin 512) :
    X₀ m c (ix3 ⟨3 * b.val + t.val, by omega⟩ h w) = m ((c : Thread nD τ).loc main_arg0) (ix4 b t h w) := by
  unfold X₀ V3 V2 V1
  after_reads_at

theorem y_val (m : (ℓ : Loc nD τ sig) → Buf (Elt Ideal) ℓ) (c : Dev nD) (b : Fin 16) (t : Fin 3) (h w : Fin 512) :
    Y₀ m c (ix3 ⟨3 * b.val + t.val, by omega⟩ h w) = m ((c : Thread nD τ).loc main_arg1) (ix4 b t h w) := by
  unfold Y₀ V3 V2 V1
  after_reads_at

end Cert.Proof.Hist

end
end
-- ==== Proof.LossValue.lean ====
/-
  The second call's number over the reals.
-/
module

public import proofs.«01_k».proof.Proof.Sums
public import proofs.«01_k».proof.Proof.Table
public import proofs.«01_k».proof.Proof.Run
public import Idealize.ShloMosaic.Lib.StableHlo.ReadAt
public import Idealize.ShloMosaic.Lib.Pipeline.ValueKit

@[expose] public section

set_option maxRecDepth 16384

noncomputable section

namespace Cert.Proof.Hist

open Cert.KernelIdeal Cert.KernelIdeal.Gen
open Idealize.ShloMosaic
open Idealize.ShloMosaic.TcCoe

/-- The extended reals' absolute value of a real number. -/
theorem abs_coe (r : ℝ) : (FloatOps.absf (F := Ideal) (φ := .f32) ((r : ℝ) : EReal) : EReal) = ((|r| : ℝ) : EReal) := by
  show max ((r : ℝ) : EReal) (-((r : ℝ) : EReal)) = _
  rw [← EReal.coe_neg, abs_eq_max_neg]
  exact (EReal.coe_strictMono.monotone.map_max).symm

/-- The loss of real sums: every pair of neighbouring columns' difference in absolute value, added up and scaled. -/
def lossR (R : Fin 48 → ℕ → ℝ) : ℝ := (∑ p : Fin 48, ∑ j : Fin 10, |R p j.val - R p (j.val + 1)|) * (2748779 / 4398046511104)

theorem pay_val (v : FVec Ideal S48x16 .f32) (R : Fin 48 → ℕ → ℝ) (hv : ∀ (p : Fin 48) (q : Fin 16), q.val < 11 → v (ix2 p q) = ((R p q.val : ℝ) : EReal)) :
    (show EReal from k1_pay1 (F := Ideal) v (ix2 0 0)) = ((lossR R : ℝ) : EReal) := by
  pointwise [k1_pay1]
  unfold lossR
  rw [nm_scale, EReal.coe_mul, coe_sum]
  refine congrArg (· * _) (Finset.sum_congr rfl fun p _ => ?_)
  rw [coe_sum]
  refine Finset.sum_congr rfl fun j _ => ?_
  have hj := j.isLt
  rw [hv p ⟨j.val, by omega⟩ (by show j.val < 11; omega), hv p ⟨1 + j.val, by omega⟩ (by show 1 + j.val < 11; omega), ← EReal.coe_sub]
  rw [abs_coe]
  exact congrArg (fun k => ((|R p j.val - R p k| : ℝ) : EReal)) (Nat.add_comm 1 j.val)

theorem arr_val (m : (ℓ : Loc nD τ sig) → Buf (Elt Ideal) ℓ) (c : Dev nD) (j : S1x1.Idx) : lossArr m c j = lossOf m c j := by
  unfold lossArr
  refine congrFun ((dat1 m c).arrAt_eq_of_after_last 1 t1_0 (by decide +kernel) (lossOf m c) fun j => ?_) j
  rw [after_out]
  blk_simp

theorem in_val (m : (ℓ : Loc nD τ sig) → Buf (Elt Ideal) ℓ) (c : Dev nD) (p : Fin 48) (q : Fin 16) :
    (show FVec Ideal S48x16 .f32 from iblk m c 0 t1_0) (ix2 p q) = sumsAll m c (ix2 p q) := by
  unfold iblk
  blk_simp
  have e : (win1_0.blk t1_0).view.emb (ix2 p q) = (ix2 p q : S48x16.Idx) := by
    funext a; refine Fin.ext ?_; fin_cases a
    · show 0 + 1 * p.val = p.val; omega
    · show 0 + 1 * q.val = q.val; omega
  show sumsAll m c ((win1_0.blk t1_0).view.emb (ix2 p q)) = _
  rw [e]

theorem end_val (m : (ℓ : Loc nD τ sig) → Buf (Elt Ideal) ℓ) (c : Dev nD) : lossEnd m c ix0 = lossArr m c (ix2 0 0) := by
  unfold lossEnd V6
  after_reads_at
  unfold V5
  rw [Function.update_self, outs_17]

/-- The kernel's loss over the reals. -/
theorem loss_val (m : (ℓ : Loc nD τ sig) → Buf (Elt Ideal) ℓ) (c : Dev nD) :
    lossEnd m c ix0 = ((lossR fun p e => rowSum (X₀ m c) (Y₀ m c) e p : ℝ) : EReal) := by
  rw [end_val, arr_val]
  refine pay_val (iblk m c 0 t1_0) _ fun p q hq => ?_
  rw [← sumsAll_val m c (table_val m c) p q hq]
  exact in_val m c p q

end Cert.Proof.Hist

end
end
-- ==== Proof.Reference.lean ====
/-
  The reference's result, in three named parts: the bins' width, an image's soft histogram, and the loss of two histograms.
-/
module

public import proofs.«01_k».proof.Proof.Edges
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.Proof.Hist

open Cert.ReferenceIdeal Cert.ReferenceIdeal.Gen Cert.ReferenceIdeal.Value
open Idealize.ShloMosaic
open Idealize.ShloMosaic.TcCoe

/-- The width of a bin. -/
def widthT : FVec Ideal S_ .f32 :=
  Host.divf (mulf (constant S_ .f32 0x3F800000#32) (Host.log (constant S_ .f32 0x44E2015B#32))) (constant S_ .f32 0x42960000#32)

/-- Each pixel's distance from each bin's centre. -/
def offT (x : FVec Ideal S16x3x512x512 .f32) : FVec Ideal S16x3x512x512x10 .f32 :=
  subf (broadcastInDim S16x3x512x512x10 ![0, 1, 2, 3, 4] bcast_S16x3x512x512x1_S16x3x512x512x10_0_1_2_3_4
      (broadcastInDim S16x3x512x512x1 ![0, 1, 2, 3] bcast_S16x3x512x512_S16x3x512x512x1_0_1_2_3 x))
    (broadcastInDim S16x3x512x512x10 ![0, 1, 2, 3, 4] bcast_S1x1x1x1x10_S16x3x512x512x10_0_1_2_3_4
      (broadcastInDim S1x1x1x1x10 ![4] bcast_S10_S1x1x1x1x10_4
        (addf (broadcastInDim S10 ![] bcast_S_S10 (constant S_ .f32 0x00000000#32))
          (mulf (broadcastInDim S10 ![] bcast_S_S10 widthT)
            (addf (sitofp .f32 (iotaInDim S10 32 0)) (broadcastInDim S10 ![] bcast_S_S10 (constant S_ .f32 0x3F000000#32)))))))

/-- A sigmoid of 150 times a vector. -/
def sigT (t : FVec Ideal S16x3x512x512x10 .f32) : FVec Ideal S16x3x512x512x10 .f32 :=
  Host.divf (broadcastInDim S16x3x512x512x10 ![] bcast_S_S16x3x512x512x10 (constant S_ .f32 0x3F800000#32))
    (addf (broadcastInDim S16x3x512x512x10 ![] bcast_S_S16x3x512x512x10 (constant S_ .f32 0x3F800000#32))
      (Host.exp (Host.negf (mulf (broadcastInDim S16x3x512x512x10 ![] bcast_S_S16x3x512x512x10 (constant S_ .f32 0x43160000#32)) t))))

/-- Half a bin's width everywhere. -/
def halfT : FVec Ideal S16x3x512x512x10 .f32 :=
  broadcastInDim S16x3x512x512x10 ![] bcast_S_S16x3x512x512x10 (Host.divf widthT (constant S_ .f32 0x40000000#32))

/-- An image's soft histogram. -/
def histT (x : FVec Ideal S16x3x512x512 .f32) : FVec Ideal S16x3x10 .f32 :=
  Host.reduceAdd (subf (sigT (addf (offT x) halfT)) (sigT (subf (offT x) halfT))) (constant S_ .f32 0x00000000#32)
    reducesTo_S16x3x512x512x10_S16x3x10_d2_3 h_S_

/-- Each channel's mean difference of two histograms. -/
def meanT (hx hy : FVec Ideal S16x3x10 .f32) : FVec Ideal S16x3 .f32 :=
  Host.divf (Host.reduceAdd (Host.absf (subf hx hy)) (constant S_ .f32 0x00000000#32) reducesTo_S16x3x10_S16x3_d2 h_S_)
    (broadcastInDim S16x3 ![] bcast_S_S16x3 (constant S_ .f32 0x41200000#32))

/-- The loss of two histograms. -/
def lossT (d : FVec Ideal S16x3 .f32) : FVec Ideal S_ .f32 :=
  mulf (Host.divf (Host.reduceAdd d (constant S_ .f32 0x00000000#32) reducesTo_S16x3_S_d0_1 h_S_) (constant S_ .f32 0x41800000#32))
    (constant S_ .f32 0x38D1B717#32)

theorem ref_eq (m : (ℓ : Loc nD τ sig) → Buf (Elt Ideal) ℓ) (c : Dev nD) :
    res_main_v85 m c = lossT (meanT (histT (m ((c.tc : Thread nD τ).loc main_arg0))) (histT (m ((c.tc : Thread nD τ).loc main_arg1)))) := rfl

/-! ## The parts over the reals -/

/-- The width as a real. -/
def width : ℝ := Real.log Q / 75

theorem width_val (j : S_.Idx) : widthT j = ((width : ℝ) : EReal) := by
  pointwise [widthT]
  rw [lit_base, lit_75, Ideal.log_coe, if_neg (by norm_num), div_coe _ _ (by norm_num)]
  rfl

/-- A bin's centre, and half its width. -/
def centre (j : ℕ) : ℝ := width * ((j : ℝ) + 1 / 2)
def half : ℝ := width / 2

theorem index_val (j : Fin 10) : (FloatOps.sitofp (F := Ideal) FTy.f32 (BitVec.ofNat 32 j.val) : EReal) = (((j.val : ℕ) : ℝ) : EReal) := by
  show ((((BitVec.ofNat 32 j.val).toInt : ℤ) : ℝ) : EReal) = _
  rw [show (BitVec.ofNat 32 j.val).toInt = ((j.val : ℕ) : ℤ) by fin_cases j <;> rfl]
  rfl

theorem off_val (x : FVec Ideal S16x3x512x512 .f32) (b : Fin 16) (t : Fin 3) (h w : Fin 512) (j : Fin 10) :
    offT x (ix5 b t h w j) = (show EReal from x (ix4 b t h w)) - ((centre j.val : ℝ) : EReal) := by
  pointwise [offT]
  rw [width_val, index_val, lit_half, ← EReal.coe_add, ← EReal.coe_mul]
  rfl

theorem half_val (j : S16x3x512x512x10.Idx) : halfT j = ((half : ℝ) : EReal) := by
  pointwise [halfT]
  rw [width_val, lit_2, div_coe _ _ (by norm_num)]
  rfl

theorem sig_val (v : FVec Ideal S16x3x512x512x10 .f32) (j : S16x3x512x512x10.Idx) :
    sigT v j = sg (((150 : ℝ) : EReal) * (show EReal from v j)) := by
  pointwise [sigT]
  rw [lit_150]
  rfl

theorem coe_sum' {ι : Type} (s : Finset ι) (f : ι → ℝ) : ((∑ i ∈ s, f i : ℝ) : EReal) = ∑ i ∈ s, ((f i : ℝ) : EReal) :=
  map_sum (⟨⟨fun r : ℝ => (r : EReal), EReal.coe_zero⟩, EReal.coe_add⟩ : ℝ →+ EReal) f s

/-- A histogram's bin: the sum over the image of the differences of the bin's two edges. -/
def histR (x : S16x3x512x512.Idx → EReal) (b : Fin 16) (t : Fin 3) (j : ℕ) : ℝ :=
  ∑ h : Fin 512, ∑ w : Fin 512, (edge j (x (ix4 b t h w)) - edge (j + 1) (x (ix4 b t h w)))

theorem hist_val (x : FVec Ideal S16x3x512x512 .f32) (b : Fin 16) (t : Fin 3) (j : Fin 10) :
    histT x (ix3 b t j) = ((histR x b t j.val : ℝ) : EReal) := by
  pointwise [histT]
  unfold histR
  rw [coe_sum']
  refine Finset.sum_congr rfl fun h _ => ?_
  rw [coe_sum']
  refine Finset.sum_congr rfl fun w _ => ?_
  rw [sig_val, sig_val]
  refine Eq.trans ?_ (bin_eq (x (ix4 b t h w)) (centre j.val) half j.val ?_ ?_)
  · pointwise
    rw [off_val, half_val]
  · unfold centre half width; push_cast; ring
  · unfold centre half width; push_cast; ring

theorem abs_coe' (r : ℝ) : (FloatOps.absf (F := Ideal) (φ := .f32) ((r : ℝ) : EReal) : EReal) = ((|r| : ℝ) : EReal) := by
  show max ((r : ℝ) : EReal) (-((r : ℝ) : EReal)) = _
  rw [← EReal.coe_neg, abs_eq_max_neg]
  exact (EReal.coe_strictMono.monotone.map_max).symm

theorem mean_val (hx hy : FVec Ideal S16x3x10 .f32) (A B : Fin 16 → Fin 3 → ℕ → ℝ)
    (hA : ∀ b t (j : Fin 10), hx (ix3 b t j) = ((A b t j.val : ℝ) : EReal)) (hB : ∀ b t (j : Fin 10), hy (ix3 b t j) = ((B b t j.val : ℝ) : EReal))
    (b : Fin 16) (t : Fin 3) : meanT hx hy (ix2 b t) = (((∑ j : Fin 10, |A b t j.val - B b t j.val|) / 10 : ℝ) : EReal) := by
  pointwise [meanT]
  rw [lit_10, ← div_coe _ _ (by norm_num), coe_sum']
  refine congrArg (Ideal.div · _) (Finset.sum_congr rfl fun j _ => ?_)
  rw [hA, hB, ← EReal.coe_sub, abs_coe']

theorem total_val (d : FVec Ideal S16x3 .f32) (D : Fin 16 → Fin 3 → ℝ) (hD : ∀ b t, d (ix2 b t) = ((D b t : ℝ) : EReal)) :
    lossT d ix0 = (((∑ b : Fin 16, ∑ t : Fin 3, D b t) / 16 * (160 * (2748779 / 4398046511104)) : ℝ) : EReal) := by
  pointwise [lossT]
  rw [lit_16, lit_weight, EReal.coe_mul ((∑ b : Fin 16, ∑ t : Fin 3, D b t) / 16), ← div_coe (∑ b : Fin 16, ∑ t : Fin 3, D b t) 16 (by norm_num), coe_sum']
  refine congrArg (fun s => Ideal.div s _ * _) (Finset.sum_congr rfl fun b _ => ?_)
  rw [coe_sum']
  exact Finset.sum_congr rfl fun t _ => hD b t

/-- The reference's loss as a real number of the two images. -/
def refR (x y : S16x3x512x512.Idx → EReal) : ℝ :=
  (∑ b : Fin 16, ∑ t : Fin 3, (∑ j : Fin 10, |histR x b t j.val - histR y b t j.val|) / 10) / 16 * (160 * (2748779 / 4398046511104))

theorem ref_val (m : (ℓ : Loc nD τ sig) → Buf (Elt Ideal) ℓ) (c : Dev nD) :
    res_main_v85 m c ix0 = ((refR (m ((c.tc : Thread nD τ).loc main_arg0)) (m ((c.tc : Thread nD τ).loc main_arg1)) : ℝ) : EReal) := by
  rw [ref_eq]
  exact total_val _ _ fun b t => mean_val _ _ _ _ (fun b t j => hist_val _ b t j) (fun b t j => hist_val _ b t j) b t

end Cert.Proof.Hist

end
end
-- ==== Proof.Value.lean ====
/-
  The kernel's loss is the reference's, over the extended reals and for every pair of images.

  Both sum the same differences of edges. The kernel first subtracts one image's edge sums from the other's and then
  takes neighbouring columns apart; the reference first takes neighbouring edges apart and then subtracts the images.
-/
module

public import proofs.«01_k».proof.Defs
public import proofs.«01_k».proof.Proof.LossValue
public import proofs.«01_k».proof.Proof.Reference

@[expose] public section

set_option maxRecDepth 16384

noncomputable section

namespace Cert.Proof.Hist

open Idealize.ShloMosaic
open Idealize.ShloMosaic.TcCoe
open Idealize.SL Idealize.SL.Sem

/-- The row of batch `b` and channel `t`. -/
def chan (b : Fin 16) (t : Fin 3) : Fin 48 := ⟨3 * b.val + t.val, by omega⟩

/-- Sixteen batches of three channels are 48 rows. -/
theorem sum_rows (f : Fin 48 → ℝ) : (∑ p : Fin 48, f p) = ∑ b : Fin 16, ∑ t : Fin 3, f (chan b t) := by
  rw [← Fin.sum_univ_mul_divNat_modNat 16 3 fun b t => f (chan b t)]
  refine Finset.sum_congr rfl fun p _ => congrArg f (Fin.ext ?_)
  show p.val = 3 * (p.val / 3) + p.val % 3
  omega

section
variable (A B : Cert.KernelIdeal.S48x512x512.Idx → EReal) (x y : Cert.ReferenceIdeal.S16x3x512x512.Idx → EReal)
  (hA : ∀ b t h w, A (ix3 (chan b t) h w) = x (ix4 b t h w)) (hB : ∀ b t h w, B (ix3 (chan b t) h w) = y (ix4 b t h w))

include hA hB in
theorem bins_eq (b : Fin 16) (t : Fin 3) (j : ℕ) :
    rowSum A B j (chan b t) - rowSum A B (j + 1) (chan b t) = histR x b t j - histR y b t j := by
  unfold rowSum histR
  rw [← Finset.sum_sub_distrib, ← Finset.sum_sub_distrib]
  refine Finset.sum_congr rfl fun h _ => ?_
  rw [← Finset.sum_sub_distrib, ← Finset.sum_sub_distrib]
  refine Finset.sum_congr rfl fun w _ => ?_
  rw [hA, hB]
  ring

include hA hB in
/-- The two losses are one real number. -/
theorem losses_eq : (lossR fun p e => rowSum A B e p) = refR x y := by
  unfold lossR refR
  rw [sum_rows]
  have e (b : Fin 16) (t : Fin 3) : (∑ j : Fin 10, |rowSum A B j.val (chan b t) - rowSum A B (j.val + 1) (chan b t)|)
      = ∑ j : Fin 10, |histR x b t j.val - histR y b t j.val| :=
    Finset.sum_congr rfl fun j _ => by rw [bins_eq A B x y hA hB]
  simp only [e, ← Finset.sum_div]
  ring

end

/-- The kernel's result is the reference's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Value.res_main_v85 m' c = lossEnd m c := by
  funext j
  rw [show j = ix0 from funext fun a => a.elim0]
  refine (ref_val m' c).trans (Eq.trans ?_ (loss_val m c).symm)
  rw [h0, h1]
  exact congrArg _ (losses_eq _ _ _ _ (fun b t h w => x_val m c b t h w) (fun b t h w => y_val m c b t h w)).symm

/-- Both programs end with the kernel's loss in their result. -/
theorem value : Cert.algebraic_KernelIdeal_ReferenceIdeal := fun m g m' g' _ hag =>
  ⟨fun c => lossEnd m c,
    (θ_run _ _ _).mono (fun _ h => h.1) (run_main (F := Ideal) m g),
    (θ_run _ _ _).mono (fun _ h c => ⟨(h c).1.trans (result_eq m m' c (hag c).1 (hag c).2), (h c).2⟩) (Cert.ReferenceIdeal.Value.run (F := Ideal) m' g')⟩

end Cert.Proof.Hist

end
end
-- ==== Proof.lean ====
/-
  The certificate's claims, put together.
-/
module

public import proofs.«01_k».proof.Defs
public import proofs.«01_k».proof.Proof.Frames
public import proofs.«01_k».proof.Proof.Value
public import proofs.«01_k».proof.Proof.Gen.ReferenceIdeal.Run

@[expose] public section

namespace Cert.Proof

theorem claim : Cert.Claim := ⟨Cert.Kernel.Gen.facts, Cert.KernelIdeal.Gen.facts, Cert.ReferenceIdeal.Gen.facts,
  Hist.frame_kernel, Hist.frame_ideal, Hist.frame_reference, Hist.names, Hist.value⟩

end Cert.Proof

end
